-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log_1" .f32 0xC0135D8E#32 ((Real.log (1 / 10) : ℝ) : EReal)
  ∧ IdealRules.named_const.Statement Cert.KernelIdeal.κ "log_9" .f32 0xBDD7C741#32 ((Real.log (9 / 10) : ℝ) : EReal)
  ∧ IdealRules.named_const.Statement Cert.KernelIdeal.κ "log_2" .f32 0xBFCE0210#32 ((Real.log (1 / 5) : ℝ) : EReal)
  ∧ IdealRules.named_const.Statement Cert.KernelIdeal.κ "log_8" .f32 0xBE647FBE#32 ((Real.log (4 / 5) : ℝ) : EReal)
  ∧ IdealRules.named_const.Statement Cert.KernelIdeal.κ "log_3" .f32 0xBF9A1BC8#32 ((Real.log (3 / 10) : ℝ) : EReal)
  ∧ IdealRules.named_const.Statement Cert.KernelIdeal.κ "log_7" .f32 0xBEB69E19#32 ((Real.log (7 / 10) : ℝ) : EReal)
  ∧ IdealRules.named_const.Statement Cert.KernelIdeal.κ "log_4" .f32 0xBF6A9208#32 ((Real.log (2 / 5) : ℝ) : EReal)
  ∧ IdealRules.named_const.Statement Cert.KernelIdeal.κ "log_6" .f32 0xBF02C578#32 ((Real.log (3 / 5) : ℝ) : EReal)
  ∧ IdealRules.named_const.Statement Cert.KernelIdeal.κ "log_5" .f32 0xBF317218#32 ((Real.log (1 / 2) : ℝ) : EReal)

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S32768x1024 : Shape := ⟨2, ![32768, 1024]⟩
abbrev S32768 : Shape := ⟨1, ![32768]⟩
abbrev S_ : Shape := ⟨0, ![]⟩

class Facts : Prop where
  bcast_S_S32768x1024 : S_.BroadcastsInDim S32768x1024 (![] : Fin 0 → Fin S32768x1024.rank)
  bcast_S_S32768 : S_.BroadcastsInDim S32768 (![] : Fin 0 → Fin S32768.rank)

variable [Facts]

def fn {F : FTy → Type} [FloatOps F] (main_arg0 : FVec F S32768x1024 .f32) (main_arg1 : IVec S32768 32) : IVec S32768x1024 1 × IVec S32768 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 32 := constantI S_ 32 0#32
  let main_v3 : IVec S32768 32 := broadcastInDim S32768 ![] bcast_S_S32768 main_c
  let main_v4 : IVec S32768 1 := cmpi .sge main_arg1 main_v3
  let main_c_0 : IVec S_ 32 := constantI S_ 32 1024#32
  let main_v5 : IVec S32768 32 := broadcastInDim S32768 ![] bcast_S_S32768 main_c_0
  let main_v6 : IVec S32768 1 := cmpi .slt main_arg1 main_v5
  let main_v7 : IVec S32768 1 := andi main_v4 main_v6
  (main_v2, main_v7)
-- ==== Kernel.lean ====
abbrev S32768x1024 : Shape := ⟨2, ![32768, 1024]⟩
abbrev S32768 : Shape := ⟨1, ![32768]⟩
abbrev S32768x1 : Shape := ⟨2, ![32768, 1]⟩
abbrev S1 : Shape := ⟨1, ![1]⟩
abbrev S1024x1024 : Shape := ⟨2, ![1024, 1024]⟩
abbrev S1024x1 : Shape := ⟨2, ![1024, 1]⟩
abbrev S22 : Shape := ⟨1, ![22]⟩
abbrev S1024 : Shape := ⟨1, ![1024]⟩
abbrev S1x1024 : Shape := ⟨2, ![1, 1024]⟩
abbrev S1x1 : Shape := ⟨2, ![1, 1]⟩

abbrev nBuf : Space → Nat
  | .hbm => 4
  | .vmem => 4
  | .smem => 2
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S32768x1, .i32⟩
  | .hbm, ⟨3, _⟩ => ⟨S1, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .smem, ⟨0, _⟩ => ⟨S1, .f32⟩
  | .local _ .smem, ⟨1, _⟩ => ⟨S22, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v360 : BitVec 1 := Scalar.cmpi .eq arg0 c31_i32
  let v361 : BitVec 32 := Scalar.extui v360
  let c0_i32_74 : BitVec 32 := 0#32
  let v362 : BitVec 1 := Scalar.cmpi .ne v361 c0_i32_74
  v362

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "log_1" => some ((Real.log (1 / 10) : ℝ) : EReal)
  | "log_2" => some ((Real.log (1 / 5) : ℝ) : EReal)
  | "log_3" => some ((Real.log (3 / 10) : ℝ) : EReal)
  | "log_4" => some ((Real.log (2 / 5) : ℝ) : EReal)
  | "log_5" => some ((Real.log (1 / 2) : ℝ) : EReal)
  | "log_6" => some ((Real.log (3 / 5) : ℝ) : EReal)
  | "log_7" => some ((Real.log (7 / 10) : ℝ) : EReal)
  | "log_8" => some ((Real.log (4 / 5) : ℝ) : EReal)
  | "log_9" => some ((Real.log (9 / 10) : ℝ) : EReal)
  | _ => none
-- ==== ReferenceIdeal.lean ====
abbrev S32768x1024 : Shape := ⟨2, ![32768, 1024]⟩
abbrev S32768 : Shape := ⟨1, ![32768]⟩
abbrev S11 : Shape := ⟨1, ![11]⟩
abbrev S_ : Shape := ⟨0, ![]⟩
abbrev S1 : Shape := ⟨1, ![1]⟩
abbrev S32768x1 : Shape := ⟨2, ![32768, 1]⟩
abbrev S32768x1x1 : Shape := ⟨3, ![32768, 1, 1]⟩
abbrev S1x1x1 : Shape := ⟨3, ![1, 1, 1]⟩
abbrev S1x1024 : Shape := ⟨2, ![1, 1024]⟩
abbrev S32768x1024x1 : Shape := ⟨3, ![32768, 1024, 1]⟩
abbrev S1x1x11 : Shape := ⟨3, ![1, 1, 11]⟩
abbrev S32768x1024x11 : Shape := ⟨3, ![32768, 1024, 11]⟩
abbrev S10 : Shape := ⟨1, ![10]⟩

abbrev nBuf : Space → Nat
  | .hbm => 122
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S11, .f32⟩
  | .hbm, ⟨3, _⟩ => ⟨S_, .f32⟩
  | .hbm, ⟨4, _⟩ => ⟨S11, .f32⟩
  | .hbm, ⟨5, _⟩ => ⟨S11, .f32⟩
  | .hbm, ⟨6, _⟩ => ⟨S_, .i32⟩
  | .hbm, ⟨7, _⟩ => ⟨S1, .i32⟩
  | .hbm, ⟨8, _⟩ => ⟨S_, .f32⟩
  | .hbm, ⟨9, _⟩ => ⟨S11, .f32⟩
  | .hbm, ⟨10, _⟩ => ⟨S_, .f32⟩
  | .hbm, ⟨11, _⟩ => ⟨S32768, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S32768x1, .i32⟩
  | .hbm, ⟨26, _⟩ => ⟨S_, .i32⟩
  | .hbm, ⟨27, _⟩ => ⟨S32768x1, .i32⟩
  | .hbm, ⟨28, _⟩ => ⟨S32768x1, .i1⟩
  | .hbm, ⟨29, _⟩ => ⟨S_, .i32⟩
  | .hbm, ⟨30, _⟩ => ⟨S32768x1, .i32⟩
  | .hbm, ⟨31, _⟩ => ⟨S32768x1, .i32⟩
  | .hbm, ⟨32, _⟩ => ⟨S32768x1, .i32⟩
  | .hbm, ⟨33, _⟩ => ⟨S32768x1x1, .i32⟩
  | .hbm, ⟨34, _⟩ => ⟨S1, .i32⟩
  | .hbm, ⟨35, _⟩ => ⟨S_, .i32⟩
  | .hbm, ⟨36, _⟩ => ⟨S32768x1x1, .i32⟩
  | .hbm, ⟨37, _⟩ => ⟨S32768x1x1, .i1⟩
  | .hbm, ⟨38, _⟩ => ⟨S1x1x1, .i32⟩
  | .hbm, ⟨39, _⟩ => ⟨S32768x1x1, .i32⟩
  | .hbm, ⟨40, _⟩ => ⟨S32768x1x1, .i1⟩
  | .hbm, ⟨41, _⟩ => ⟨S32768x1x1, .i1⟩
  | .hbm, ⟨42, _⟩ => ⟨S_, .i1⟩
  | .hbm, ⟨43, _⟩ => ⟨S32768x1, .i1⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768, .f32⟩
  | .hbm, ⟨49, _⟩ => ⟨S32768, .f32⟩
  | .hbm, ⟨50, _⟩ => ⟨S_, .f32⟩
  | .hbm, ⟨51, _⟩ => ⟨S32768, .f32⟩
  | .hbm, ⟨52, _⟩ => ⟨S_, .f32⟩
  | .hbm, ⟨53, _⟩ => ⟨S32768, .f32⟩
  | .hbm, ⟨54, _⟩ => ⟨S32768, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768, .f32⟩
  | .hbm, ⟨61, _⟩ => ⟨S32768x1, .f32⟩
  | .hbm, ⟨62, _⟩ => ⟨S32768x1024, .f32⟩
  | .hbm, ⟨63, _⟩ => ⟨S32768x1024, .f32⟩
  | .hbm, ⟨64, _⟩ => ⟨S32768x1, .i32⟩
  | .hbm, ⟨65, _⟩ => ⟨S1x1024, .i32⟩
  | .hbm, ⟨66, _⟩ => ⟨S32768x1024, .i32⟩
  | .hbm, ⟨67, _⟩ => ⟨S32768x1024, .i32⟩
  | .hbm, ⟨68, _⟩ => ⟨S32768x1024, .i1⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S32768x1024x1, .f32⟩
  | .hbm, ⟨73, _⟩ => ⟨S1x1x11, .f32⟩
  | .hbm, ⟨74, _⟩ => ⟨S32768x1024x11, .f32⟩
  | .hbm, ⟨75, _⟩ => ⟨S32768x1024x11, .f32⟩
  | .hbm, ⟨76, _⟩ => ⟨S32768x1024x11, .i1⟩
  | .hbm, ⟨77, _⟩ => ⟨S32768x1024x11, .i32⟩
  | .hbm, ⟨78, _⟩ => ⟨S_, .i32⟩
  | .hbm, ⟨79, _⟩ => ⟨S32768x1024, .i32⟩
  | .hbm, ⟨80, _⟩ => ⟨S_, .f32⟩
  | .hbm, ⟨81, _⟩ => ⟨S10, .f32⟩
  | .hbm, ⟨82, _⟩ => ⟨S_, .i32⟩
  | .hbm, ⟨83, _⟩ => ⟨S32768x1024, .i32⟩
  | .hbm, ⟨84, _⟩ => ⟨S32768x1024, .i1⟩
  | .hbm, ⟨85, _⟩ => ⟨S_, .i32⟩
  | .hbm, ⟨86, _⟩ => ⟨S32768x1024, .i32⟩
  | .hbm, ⟨87, _⟩ => ⟨S32768x1024, .i32⟩
  | .hbm, ⟨88, _⟩ => ⟨S32768x1024, .i32⟩
  | .hbm, ⟨89, _⟩ => ⟨S32768x1024x1, .i32⟩
  | .hbm, ⟨90, _⟩ => ⟨S_, .f32⟩
  | .hbm, ⟨91, _⟩ => ⟨S32768x1024, .f32⟩
  | .hbm, ⟨92, _⟩ => ⟨S10, .f32⟩
  | .hbm, ⟨93, _⟩ => ⟨S_, .f32⟩
  | .hbm, ⟨94, _⟩ => ⟨S10, .f32⟩
  | .hbm, ⟨95, _⟩ => ⟨S10, .i1⟩
  | .hbm, ⟨96, _⟩ => ⟨S10, .i32⟩
  | .hbm, ⟨97, _⟩ => ⟨S_, .i32⟩
  | .hbm, ⟨98, _⟩ => ⟨S_, .i32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S10, .f32⟩
  | .hbm, ⟨103, _⟩ => ⟨S10, .f32⟩
  | .hbm, ⟨104, _⟩ => ⟨S10, .f32⟩
  | .hbm, ⟨105, _⟩ => ⟨S10, .f32⟩
  | .hbm, ⟨106, _⟩ => ⟨S32768x1024x1, .i32⟩
  | .hbm, ⟨107, _⟩ => ⟨S32768x1024, .f32⟩
  | .hbm, ⟨108, _⟩ => ⟨S_, .f32⟩
  | .hbm, ⟨109, _⟩ => ⟨S32768x1024, .f32⟩
  | .hbm, ⟨110, _⟩ => ⟨S32768x1024, .f32⟩
  | .hbm, ⟨111, _⟩ => ⟨S_, .f32⟩
  | .hbm, ⟨112, _⟩ => ⟨S32768, .f32⟩
  | .hbm, ⟨113, _⟩ => ⟨S_, .f32⟩
  | .hbm, ⟨114, _⟩ => ⟨S32768, .f32⟩
  | .hbm, ⟨115, _⟩ => ⟨S32768, .f32⟩
  | .hbm, ⟨116, _⟩ => ⟨S32768, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S1, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v5 : Ref sig .tc := ⟨.hbm, 24, rfl⟩
abbrev main_v6 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_cst_1 : Ref sig .tc := ⟨.hbm, 50, rfl⟩
abbrev main_v10 : Ref sig .tc := ⟨.hbm, 51, rfl⟩
abbrev main_cst_2 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_cst_3 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_4 : Ref sig .tc := ⟨.hbm, 78, rfl⟩
abbrev main_v30 : Ref sig .tc := ⟨.hbm, 79, rfl⟩
abbrev main_cst_5 : Ref sig .tc := ⟨.hbm, 80, rfl⟩
abbrev main_v31 : Ref sig .tc := ⟨.hbm, 81, rfl⟩
abbrev main_c_6 : Ref sig .tc := ⟨.hbm, 82, rfl⟩
abbrev main_v32 : Ref sig .tc := ⟨.hbm, 83, rfl⟩
abbrev main_v33 : Ref sig .tc := ⟨.hbm, 84, rfl⟩
abbrev main_c_7 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_cst_8 : Ref sig .tc := ⟨.hbm, 90, rfl⟩
abbrev main_v38 : Ref sig .tc := ⟨.hbm, 91, rfl⟩
abbrev main_v39 : Ref sig .tc := ⟨.hbm, 92, rfl⟩
abbrev main_cst_9 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_c_10 : Ref sig .tc := ⟨.hbm, 97, rfl⟩
abbrev main_v43 : Ref sig .tc := ⟨.hbm, 98, rfl⟩
abbrev main_v44 : Ref sig .tc := ⟨.hbm, 99, rfl⟩
abbrev main_cst_11 : Ref sig .tc := ⟨.hbm, 100, rfl⟩
abbrev main_call3_v0 : Ref sig .tc := ⟨.hbm, 101, rfl⟩
abbrev main_call3_v1 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_call4_v0 : Ref sig .tc := ⟨.hbm, 106, rfl⟩
abbrev main_v48 : Ref sig .tc := ⟨.hbm, 107, rfl⟩
abbrev main_cst_12 : Ref sig .tc := ⟨.hbm, 108, rfl⟩
abbrev main_v49 : Ref sig .tc := ⟨.hbm, 109, rfl⟩
abbrev main_v50 : Ref sig .tc := ⟨.hbm, 110, rfl⟩
abbrev main_cst_13 : Ref sig .tc := ⟨.hbm, 111, rfl⟩
abbrev main_v51 : Ref sig .tc := ⟨.hbm, 112, rfl⟩
abbrev main_cst_14 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_cst_15 : Ref sig .tc := ⟨.hbm, 117, rfl⟩
abbrev main_v55 : Ref sig .tc := ⟨.hbm, 118, rfl⟩
abbrev main_cst_16 : Ref sig .tc := ⟨.hbm, 119, rfl⟩
abbrev main_v56 : Ref sig .tc := ⟨.hbm, 120, rfl⟩
abbrev main_v57 : Ref sig .tc := ⟨.hbm, 121, rfl⟩

abbrev nD : Nat := 1
abbrev τ : Topo := Topo.v7x

variable {F : FTy → Type} [FloatOps F]
-- ==== Proof.Runs.lean ====
/-
  The claims that need no arithmetic: the programs run from every state, leave their arguments alone and end with every
  counter at zero, and the nine named constants are what the kernel's literals round.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.GHM

open Idealize.ShloMosaic Idealize.SL.Sem

/-- The kernel as printed runs and keeps its arguments. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- And the reference over the extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each literal named in the kernel is the logarithm its name says, rounded. -/
theorem named : Cert.preserves_Kernel_KernelIdeal :=
  ⟨IdealRules.named_const.statement Cert.KernelIdeal.κ "log_1" .f32 0xC0135D8E#32 ((Real.log (1 / 10) : ℝ) : EReal) rfl,
    IdealRules.named_const.statement Cert.KernelIdeal.κ "log_9" .f32 0xBDD7C741#32 ((Real.log (9 / 10) : ℝ) : EReal) rfl,
    IdealRules.named_const.statement Cert.KernelIdeal.κ "log_2" .f32 0xBFCE0210#32 ((Real.log (1 / 5) : ℝ) : EReal) rfl,
    IdealRules.named_const.statement Cert.KernelIdeal.κ "log_8" .f32 0xBE647FBE#32 ((Real.log (4 / 5) : ℝ) : EReal) rfl,
    IdealRules.named_const.statement Cert.KernelIdeal.κ "log_3" .f32 0xBF9A1BC8#32 ((Real.log (3 / 10) : ℝ) : EReal) rfl,
    IdealRules.named_const.statement Cert.KernelIdeal.κ "log_7" .f32 0xBEB69E19#32 ((Real.log (7 / 10) : ℝ) : EReal) rfl,
    IdealRules.named_const.statement Cert.KernelIdeal.κ "log_4" .f32 0xBF6A9208#32 ((Real.log (2 / 5) : ℝ) : EReal) rfl,
    IdealRules.named_const.statement Cert.KernelIdeal.κ "log_6" .f32 0xBF02C578#32 ((Real.log (3 / 5) : ℝ) : EReal) rfl,
    IdealRules.named_const.statement Cert.KernelIdeal.κ "log_5" .f32 0xBF317218#32 ((Real.log (1 / 2) : ℝ) : EReal) rfl⟩

end Cert.GHM

end
-- ==== Proof.Words.lean ====
/-
  The twenty-two accumulator words, one grid point at a time.

  The kernel keeps twenty-two numbers in scalar memory: words 0 to 10 count elements per bin, words 11 to 21 add up
  losses per bin. This module names what a point leaves in each word over what it found there (`stepW`), shows that
  the three kinds of point (first, middle, last) leave exactly that, the first over zeros, and that the last point
  writes out `finishW` of the words it leaves.
-/
module

public import proofs.«01_k».proof.Proof.Gen.KernelIdeal.Value
public import Idealize.ShloMosaic.Lib.CellWrites

@[expose] public section

set_option maxRecDepth 16384

noncomputable section

namespace Cert.GHM

open Cert.KernelIdeal Cert.KernelIdeal.Gen Idealize.ShloMosaic Idealize.ShloMosaic.TcCoe Idealize.SL.Sem

variable {F : FTy → Type} [FloatOps F] [Named F]

/-- The index of word `j`. -/
def cell (j : Fin 22) : S22.Idx := fun a => ⟨j.val, by fin_cases a; exact j.isLt⟩

/-- Every index of the scratch is a word's. -/
theorem exists_cell (y : S22.Idx) : ∃ j, y = cell j :=
  ⟨⟨(y 0).val, (y 0).isLt⟩, by funext a; fin_cases a; rfl⟩

/-- The two offsets 0 are the constant 0. -/
theorem zero2 : (![0, 0] : Fin 2 → ℕ) = fun _ => 0 := by funext a; fin_cases a <;> rfl

/-- The load of the block of predictions. -/
theorem load_x (M : Memref sig .tc .vmem S1024x1024 .f32) (hM : M.IsWhole)
    (inb : ∀ a, (![0, 0] : Fin 2 → ℕ) a + (![1024, 1024] : Fin 2 → ℕ) a ≤ S1024x1024.size a) (x : Vec F S1024x1024 .f32) :
    View.readAt (Elt F) M.view (Rect.unit (s := S1024x1024) ![0, 0] ![1024, 1024] inb).toLoadRect (hM.unread x) = x := by
  show View.ld (M.view.read (Elt F) (hM.unread x)) (Rect.unit (s := S1024x1024) ![0, 0] S1024x1024.size inb) = x
  rw [hM.read_unread]
  exact View.ld_unit_zero zero2 inb x

/-- The load of the block of targets. -/
theorem load_t (M : Memref sig .tc .vmem S1024x1 .i32) (hM : M.IsWhole)
    (inb : ∀ a, (![0, 0] : Fin 2 → ℕ) a + (![1024, 1] : Fin 2 → ℕ) a ≤ S1024x1.size a) (x : Vec F S1024x1 .i32) :
    View.readAt (Elt F) M.view (Rect.unit (s := S1024x1) ![0, 0] ![1024, 1] inb).toLoadRect (hM.unread x) = x := by
  show View.ld (M.view.read (Elt F) (hM.unread x)) (Rect.unit (s := S1024x1) ![0, 0] S1024x1.size inb) = x
  rw [hM.read_unread]
  exact View.ld_unit_zero zero2 inb x

/-- A load of one word of the accumulators gives that word. -/
theorem load_word (M : Memref sig .tc .smem S22 .f32) (hM : M.IsWhole) (xs : Vec F S22 .f32)
    (n : ℕ) (inb : ∀ a, (![n] : Fin 1 → ℕ) a + (![1] : Fin 1 → ℕ) a ≤ S22.size a)
    (hp : 0 < (Rect.unit (s := S22) ![n] ![1] inb).toLoadRect.shape.numel) :
    View.readAt (Elt F) M.view (Rect.unit (s := S22) ![n] ![1] inb).toLoadRect (hM.unread xs) (Shape.Idx.first hp)
      = xs (cell ⟨n, inb 0⟩) := by
  show M.view.read (Elt F) (hM.unread xs) _ = _
  rw [hM.read_unread]
  congr 1
  funext a
  fin_cases a
  rfl

/-- The words a point leaves, over the words `acc` it starts from, at the block `x` of predictions and the block `t`
    of targets. -/
def stepW (x : Vec F S1024x1024 .f32) (t : Vec F S1024x1 .i32) (acc : Fin 22 → F .f32) : Fin 22 → F .f32 :=
  ![acc 0,
    k0_pay19 (k0_pay13 x) (k0_pay14 x t) (k0_pay15 x t) (acc 1),
    k0_pay25 (k0_pay17 (k0_pay13 x) (k0_pay14 x t) (k0_pay15 x t)) (k0_pay22 x k0_pay7 (k0_pay8 x t) (k0_pay9 x)) (acc 2),
    k0_pay30 x (k0_pay8 x t) (k0_pay9 x) (k0_pay22 x k0_pay7 (k0_pay8 x t) (k0_pay9 x)) (acc 3),
    k0_pay35 x (k0_pay8 x t) (k0_pay9 x) (k0_pay28 x (k0_pay8 x t) (k0_pay9 x)) (acc 4),
    k0_pay42 (k0_pay8 x t) (k0_pay9 x) (k0_pay33 x (k0_pay8 x t) (k0_pay9 x)) (k0_pay37 (k0_pay9 x))
      (k0_pay38 x k0_pay7 (k0_pay9 x)) (acc 5),
    k0_pay47 (k0_pay40 (k0_pay8 x t) (k0_pay9 x) (k0_pay37 (k0_pay9 x)) (k0_pay38 x k0_pay7 (k0_pay9 x)))
      (k0_pay44 x (k0_pay8 x t) (k0_pay9 x)) (acc 6),
    k0_pay52 (k0_pay45 (k0_pay44 x (k0_pay8 x t) (k0_pay9 x))) (k0_pay50 x (k0_pay8 x t) (k0_pay9 x)) (acc 7),
    k0_pay57 x k0_pay7 (k0_pay8 x t) (k0_pay9 x) (k0_pay50 x (k0_pay8 x t) (k0_pay9 x)) (acc 8),
    k0_pay62 x (k0_pay8 x t) (k0_pay9 x) (k0_pay55 x k0_pay7 (k0_pay8 x t) (k0_pay9 x)) (acc 9),
    k0_pay64 x (k0_pay8 x t) (k0_pay9 x) (acc 10),
    acc 11,
    k0_pay20 (k0_pay10 x t) (k0_pay11 x t) (k0_pay13 x) (k0_pay14 x t) (k0_pay15 x t) (acc 12),
    k0_pay26 (k0_pay18 (k0_pay10 x t) (k0_pay13 x) (k0_pay14 x t) (k0_pay15 x t))
      (k0_pay23 x k0_pay7 (k0_pay8 x t) (k0_pay9 x) (k0_pay10 x t)) (acc 13),
    k0_pay31 x (k0_pay8 x t) (k0_pay9 x) (k0_pay10 x t)
      (k0_pay23 x k0_pay7 (k0_pay8 x t) (k0_pay9 x) (k0_pay10 x t)) (acc 14),
    k0_pay36 x (k0_pay8 x t) (k0_pay9 x) (k0_pay10 x t) (k0_pay29 x (k0_pay8 x t) (k0_pay9 x) (k0_pay10 x t)) (acc 15),
    k0_pay43 (k0_pay8 x t) (k0_pay9 x) (k0_pay10 x t) (k0_pay34 x (k0_pay8 x t) (k0_pay9 x) (k0_pay10 x t))
      (k0_pay37 (k0_pay9 x)) (k0_pay38 x k0_pay7 (k0_pay9 x)) (acc 16),
    k0_pay48 (k0_pay10 x t)
      (k0_pay41 (k0_pay8 x t) (k0_pay9 x) (k0_pay10 x t) (k0_pay37 (k0_pay9 x)) (k0_pay38 x k0_pay7 (k0_pay9 x)))
      (k0_pay44 x (k0_pay8 x t) (k0_pay9 x)) (acc 17),
    k0_pay53 (k0_pay46 (k0_pay10 x t) (k0_pay44 x (k0_pay8 x t) (k0_pay9 x)))
      (k0_pay51 x (k0_pay8 x t) (k0_pay9 x) (k0_pay10 x t)) (acc 18),
    k0_pay58 x k0_pay7 (k0_pay8 x t) (k0_pay9 x) (k0_pay10 x t)
      (k0_pay51 x (k0_pay8 x t) (k0_pay9 x) (k0_pay10 x t)) (acc 19),
    k0_pay63 x (k0_pay8 x t) (k0_pay9 x) (k0_pay10 x t)
      (k0_pay56 x k0_pay7 (k0_pay8 x t) (k0_pay9 x) (k0_pay10 x t)) (acc 20),
    k0_pay65 x (k0_pay8 x t) (k0_pay9 x) (k0_pay10 x t) (acc 21)]

/-- The number written out at the end, from the words. -/
def finishW (w : Fin 22 → F .f32) : F .f32 :=
  have n : F .f32 := k0_pay3 (k0_pay2 (w 0) (w 1) (w 2) (w 3) (w 4) (w 5) (w 6)) (w 7) (Scalar.ofBits .f32 0x00000000#32) (w 8) (w 9)
  k0_pay1
    (k0_pay5 n
      (k0_pay4 (k0_pay2 (w 0) (w 1) (w 2) (w 3) (w 4) (w 5) (w 6)) (w 7) (Scalar.ofBits .f32 0x00000000#32) (w 8) (w 9)
        (w 0) (w 11) (w 1) (w 12) (w 2) (w 13) (w 3) (w 14))
      (w 4) (w 15) (w 5) (w 16) (w 6) (w 17) (w 7) (w 18) (w 8) (w 19) (w 9) (w 20))
    (k0_pay6 n (w 9) (w 21))

section Points

variable (c : Dev nD) (i : grid0.Coords) (arg1 : Memref sig .tc .vmem S1024x1024 .f32) (harg1 : arg1.IsWhole)
  (arg2 : Memref sig .tc .vmem S1024x1 .i32) (harg2 : arg2.IsWhole) (arg3 : Memref sig .tc .smem S1 .f32)
  (harg3 : arg3.IsWhole) (arg4 : Memref sig .tc .smem S22 .f32) (harg4 : arg4.IsWhole)
  (x : Vec F S1024x1024 .f32) (t : Vec F S1024x1 .i32) (xs : Vec F S22 .f32)

/-- A middle point steps every word. -/
theorem sout_B (hc0 : ¬cond0_0 i) (hc1 : ¬cond0_1 i) (j : Fin 22) :
    sout0_B_0 c i arg1 harg1 arg2 harg2 arg3 harg3 arg4 harg4 hc0 hc1 x t xs (cell j)
      = stepW x t (fun k => xs (cell k)) j := by
  unfold sout0_B_0 kernelRun0_B
  dsimp only
  sl_unfold_words
  simp only [View.read_writes_cons_cell, load_x, load_t, load_word, View.writes_nil, harg4.read_unread]
  fin_cases j <;> rfl

/-- The last point steps every word too. -/
theorem sout_C (hc0 : ¬cond0_0 i) (hc1 : cond0_1 i) (j : Fin 22) :
    sout0_C_0 c i arg1 harg1 arg2 harg2 arg3 harg3 arg4 harg4 hc0 hc1 x t xs (cell j)
      = stepW x t (fun k => xs (cell k)) j := by
  unfold sout0_C_0 kernelRun0_C
  dsimp only
  sl_unfold_words
  simp only [View.read_writes_cons_cell, load_x, load_t, load_word, View.writes_nil, harg4.read_unread]
  fin_cases j <;> rfl

/-- The first point steps zeros. -/
theorem sout_A (hc0 : cond0_0 i) (hc1 : ¬cond0_1 i) (j : Fin 22) :
    sout0_A_0 c i arg1 harg1 arg2 harg2 arg3 harg3 arg4 harg4 hc0 hc1 x t (cell j)
      = stepW x t (fun _ => Scalar.ofBits .f32 0x00000000#32) j := by
  unfold sout0_A_0 kernelRun0_A
  dsimp only
  sl_unfold_words
  simp only [View.read_writes_cons_cell, load_x, load_t, load_word, View.writes_nil]
  fin_cases j <;> rfl

/-- The last point writes out `finishW` of the words it leaves. -/
theorem out_C (hc0 : ¬cond0_0 i) (hc1 : cond0_1 i) (y : S1.Idx) :
    out0_C_2 c i arg1 harg1 arg2 harg2 arg3 harg3 arg4 harg4 hc0 hc1 x t xs y
      = finishW (stepW x t (fun k => xs (cell k))) := by
  unfold out0_C_2 kernelRun0_C
  dsimp only
  sl_unfold_words
  simp only [View.read_writes_cons_cell, load_x, load_t, load_word, View.writes_nil]
  rw [if_pos (by have := (y 0).isLt; change (y 0).val < 1 at this; show (y 0).val = 0; omega)]
  rfl

end Points
end Cert.GHM
end
-- ==== Proof.Sweep.lean ====
/-
  The kernel's result array, from its arguments.

  The accumulator words after each of the thirty-two grid points (`wordsAt`), the two blocks a point works on in terms
  of the argument arrays, and the array the run ends with: one number, `finishW` of the words after the last point.
-/
module

public import proofs.«01_k».proof.Proof.Words
public import Idealize.ShloMosaic.Lib.ValueIdx
public import Idealize.ShloMosaic.Lib.ValueLayoutCasts

@[expose] public section

set_option maxRecDepth 16384

noncomputable section

namespace Cert.GHM

open Cert.KernelIdeal Cert.KernelIdeal.Gen Idealize.ShloMosaic Idealize.ShloMosaic.TcCoe Idealize.SL.Sem
open Idealize.ShloMosaic.ValueIdx

variable {F : FTy → Type} [FloatOps F] [Named F]
variable (m : (ℓ : Loc nD τ sig) → Buf (Elt F) ℓ) (c : Dev nD)

/-- The block of predictions at point `n`. -/
abbrev xblk (n : ℕ) (h : n < cfg0.N) : Vec F S1024x1024 .f32 := iblk m c 0 ⟨n, h⟩

/-- The block of targets at point `n`. -/
abbrev tblk (n : ℕ) (h : n < cfg0.N) : Vec F S1024x1 .i32 := iblk m c 1 ⟨n, h⟩

/-- The words after point `n`: zeros stepped once per point. -/
def wordsAt : (n : ℕ) → n < cfg0.N → Fin 22 → F .f32
  | 0, h => stepW (xblk m c 0 h) (tblk m c 0 h) (fun _ => Scalar.ofBits .f32 0x00000000#32)
  | n + 1, h => stepW (xblk m c (n + 1) h) (tblk m c (n + 1) h) (wordsAt n (Nat.lt_of_succ_lt h))

/-- The scratch after point `n` holds those words. -/
theorem scratch_eq : ∀ (n : ℕ) (h : n < cfg0.N) (j : Fin 22), (outsAt0 m c n h).2 (cell j) = wordsAt m c n h j
  | 0, h, j => by
    rw [outsAt0_A m c ⟨0, h⟩ rfl (by simp)]
    dsimp only
    exact sout_A ..
  | n + 1, h, j => by
    have hN : n + 1 < 32 := lt_of_lt_of_eq h N_0
    have ih := funext fun k => scratch_eq n (Nat.lt_of_succ_lt h) k
    by_cases h1 : (n + 1) % 32 = 31
    · rw [outsAt0_C m c ⟨n + 1, h⟩ (by dsimp only; omega) h1]
      dsimp only
      refine (sout_C ..).trans ?_
      show stepW _ _ (fun k => (outsAt0 m c n _).2 (cell k)) j = _
      rw [ih]; rfl
    · rw [outsAt0_B m c ⟨n + 1, h⟩ (by dsimp only; omega) h1]
      dsimp only
      refine (sout_B ..).trans ?_
      show stepW _ _ (fun k => (outsAt0 m c n _).2 (cell k)) j = _
      rw [ih]; rfl

/-- The grid has a point 31. -/
theorem lt31 : 31 < cfg0.N := by rw [show cfg0.N = 32 from N_0]; decide

/-- The last point. -/
abbrev last : Fin cfg0.N := ⟨31, lt31⟩

/-- The array the run ends with. -/
abbrev result : Buf (Elt F) ((c : Thread nD τ).loc main_v0) := fun _ => finishW (wordsAt m c 31 lt31)

/-- What is written back is the result. -/
theorem flushed_eq (t : Fin cfg0.N) (hf : (cfg0.win 2).flush t = true) :
    (dats m 0 c).flushed 2 t = ((cfg0.win 2).blk t).view.read (Elt F) (result m c) := by
  have hN : cfg0.N = 32 := N_0
  have h3 : t.val = 31 := by have := (flush0_2 t).mp hf; have := t.isLt; omega
  obtain rfl : t = last := Fin.ext h3
  rw [Value.flushed2_C m c last (by decide) (by decide)]
  funext y
  refine (out_C ..).trans ?_
  show finishW (stepW _ _ (fun k => (outsAt0 m c 30 _).2 (cell k))) = finishW (wordsAt m c 31 lt31)
  rw [funext fun k => scratch_eq m c 30 _ k]
  rfl

/-- The result array, at the end. -/
theorem final_v0 : (dats m 0 c).arrAt 2 cfg0.N = result m c :=
  (dats m 0 c).arrAt_eq_of_cover 2 (result m c) (flushed_eq m c) fun i =>
    ⟨last, (flush0_2 last).mpr rfl, by
      show i ∈ ((View.whole main_v0).slice (win0_2.rect last)).set
      rw [View.set_slice_whole, Rect.mem_set_unit]
      intro a
      have h0 : (i 0 : Nat) < 1 := (i 0).isLt
      match a with
      | ⟨0, _⟩ => show win0_2.index last 0 * win0_2.size 0 ≤ (i 0 : Nat) ∧ (i 0 : Nat) < win0_2.index last 0 * win0_2.size 0 + win0_2.xsize (grid0.coords last) 0
                  rw [show win0_2.index last 0 * win0_2.size 0 = 0 from by decide +kernel, show win0_2.xsize (grid0.coords last) 0 = 1 from by decide +kernel]; omega⟩

/-- The array row a block's row is. -/
abbrev rowOf (n : ℕ) (h : n < 32) (r : Fin 1024) : Fin 32768 := ⟨n * 1024 + r.val, by omega⟩

/-- A point's block of logits is the one of its number. -/
theorem index0 : ∀ t : Fin cfg0.N, win0_0.index t 0 = t.val := by decide +kernel

/-- A point's block of targets is the one of its number. -/
theorem index1 : ∀ t : Fin cfg0.N, win0_1.index t 0 = t.val := by decide +kernel

/-- The column of targets the grid reads: the argument, reshaped. -/
theorem V_targets : (V m c main_call0_v0 : Vec F S32768x1 .i32)
    = fun i => (m ((c : Thread nD τ).loc main_arg1) : Vec F S32768 .i32) (ix1 (i 0)) := by
  show StableHlo.after hostOps0 _ _ = _
  simp only [hostOps0, StableHlo.TRef.reshape, StableHlo.TRef.toBuf, StableHlo.TRef.ofBuf, cast_eq]
  after_results_simp
  funext i
  obtain ⟨a, b, rfl⟩ : ∃ (a : Fin 32768) (b : Fin 1), i = ix2 a b := ⟨i 0, i 1, eq_ix2 i⟩
  exact ValueIdx.shapeCast_a_a1_apply _ _ a b

/-- A point's block of predictions, in terms of the argument. -/
theorem xblk_apply (n : ℕ) (h : n < cfg0.N) (r k : Fin 1024) :
    xblk m c n h (ix2 r k) = (m ((c : Thread nD τ).loc main_arg0) : Vec F S32768x1024 .f32) (ix2 (rowOf n (lt_of_lt_of_eq h N_0) r) k) := by
  show (V m c main_arg0 : Vec F S32768x1024 .f32) _ = _
  rw [V_main_arg0]
  congr 1
  funext a
  have hN : n < 32 := lt_of_lt_of_eq h N_0
  match a with
  | ⟨0, _⟩ =>
    refine Fin.ext ((win0_0.rect_emb_val ⟨n, h⟩ (ix2 r k) 0).trans ?_)
    show win0_0.index ⟨n, h⟩ 0 * 1024 + r.val = n * 1024 + r.val
    rw [index0 ⟨n, h⟩]
  | ⟨1, _⟩ =>
    refine Fin.ext ((win0_0.rect_emb_val ⟨n, h⟩ (ix2 r k) 1).trans ?_)
    show 0 * 1024 + k.val = k.val
    omega

/-- A point's block of targets, in terms of the argument. -/
theorem tblk_apply (n : ℕ) (h : n < cfg0.N) (r : Fin 1024) (z : Fin 1) :
    tblk m c n h (ix2 r z) = (m ((c : Thread nD τ).loc main_arg1) : Vec F S32768 .i32) (ix1 (rowOf n (lt_of_lt_of_eq h N_0) r)) := by
  show (V m c main_call0_v0 : Vec F S32768x1 .i32) _ = _
  rw [V_targets]
  refine congrArg (m ((c : Thread nD τ).loc main_arg1) : Vec F S32768 .i32) ?_
  funext a
  match a with
  | ⟨0, _⟩ =>
    refine Fin.ext ((win0_1.rect_emb_val ⟨n, h⟩ (ix2 r z) 0).trans ?_)
    show win0_1.index ⟨n, h⟩ 0 * 1024 + r.val = n * 1024 + r.val
    rw [index1 ⟨n, h⟩]

end Cert.GHM
end
-- ==== Proof.Consts.lean ====
/-
  The float constants the programs spell, as the extended reals they denote, and the named logarithms.
-/
module

public import proofs.«01_k».proof.KernelIdeal
public import Idealize.ShloMosaic.PureOps.Ideal
public import Idealize.ShloMosaic.PureOps.IdealRules

@[expose] public section

noncomputable section

namespace Cert.GHM

open Idealize.ShloMosaic

/-- Zero. -/
theorem ofBits_zero : Ideal.ofBits .f32 0x00000000#32 = ((0 : ℝ) : EReal) := by
  simp [Ideal.ofBits, Ideal.ieee, -EReal.coe_mul]

/-- One. -/
theorem ofBits_one : Ideal.ofBits .f32 0x3F800000#32 = ((1 : ℝ) : EReal) := by
  simp [Ideal.ofBits, Ideal.ieee, -EReal.coe_mul]; norm_num

/-- Ten, the number of bins. -/
theorem ofBits_ten : Ideal.ofBits .f32 0x41200000#32 = ((10 : ℝ) : EReal) := by
  simp [Ideal.ofBits, Ideal.ieee, -EReal.coe_mul]; norm_num

/-- The number of classes, and of rows of a block. -/
theorem ofBits_1024 : Ideal.ofBits .f32 0x44800000#32 = ((1024 : ℝ) : EReal) := by
  simp [Ideal.ofBits, Ideal.ieee, -EReal.coe_mul]; norm_num

/-- The number of elements of a block. -/
theorem ofBits_2e20 : Ideal.ofBits .f32 0x49800000#32 = ((1024 * 1024 : ℝ) : EReal) := by
  simp [Ideal.ofBits, Ideal.ieee, -EReal.coe_mul]; norm_num

/-- The number of rows. -/
theorem ofBits_32768 : Ideal.ofBits .f32 0x47000000#32 = ((32768 : ℝ) : EReal) := by
  simp [Ideal.ofBits, Ideal.ieee, -EReal.coe_mul]; norm_num

/-- The number of elements. -/
theorem ofBits_2e25 : Ideal.ofBits .f32 0x4C000000#32 = ((32768 * 1024 : ℝ) : EReal) := by
  simp [Ideal.ofBits, Ideal.ieee, -EReal.coe_mul]; norm_num

/-- What is added to the last edge, about a millionth. -/
def eps : ℝ := 8796093 / 2 ^ 43

/-- The word of what is added to the last edge. -/
theorem ofBits_eps : Ideal.ofBits .f32 0x358637BD#32 = ((eps : ℝ) : EReal) := by
  simp [Ideal.ofBits, Ideal.ieee, -EReal.coe_mul, eps]; norm_num

/-- It is positive. -/
theorem eps_pos : 0 < eps := by norm_num [eps]

/-- Minus infinity. -/
theorem ofBits_bot : Ideal.ofBits .f32 0xFF800000#32 = ⊥ := by
  simp [Ideal.ofBits, Ideal.ieee]

/-- Infinity. -/
theorem ofBits_top : Ideal.ofBits .f32 0x7F800000#32 = ⊤ := by
  simp [Ideal.ofBits, Ideal.ieee]

/-- The kernel's constant for the threshold `k / 10`. -/
def logAt : ℕ → EReal
  | 1 => Named.named (F := Ideal) Cert.KernelIdeal.κ "log_1" (φ := .f32) 0xC0135D8E#32
  | 2 => Named.named (F := Ideal) Cert.KernelIdeal.κ "log_2" (φ := .f32) 0xBFCE0210#32
  | 3 => Named.named (F := Ideal) Cert.KernelIdeal.κ "log_3" (φ := .f32) 0xBF9A1BC8#32
  | 4 => Named.named (F := Ideal) Cert.KernelIdeal.κ "log_4" (φ := .f32) 0xBF6A9208#32
  | 5 => Named.named (F := Ideal) Cert.KernelIdeal.κ "log_5" (φ := .f32) 0xBF317218#32
  | 6 => Named.named (F := Ideal) Cert.KernelIdeal.κ "log_6" (φ := .f32) 0xBF02C578#32
  | 7 => Named.named (F := Ideal) Cert.KernelIdeal.κ "log_7" (φ := .f32) 0xBEB69E19#32
  | 8 => Named.named (F := Ideal) Cert.KernelIdeal.κ "log_8" (φ := .f32) 0xBE647FBE#32
  | _ => Named.named (F := Ideal) Cert.KernelIdeal.κ "log_9" (φ := .f32) 0xBDD7C741#32

/-- It denotes the logarithm of `k / 10`. -/
theorem logAt_eq {k : ℕ} (h1 : 1 ≤ k) (h9 : k ≤ 9) : logAt k = ((Real.log (k / 10) : ℝ) : EReal) := by
  interval_cases k <;> refine (IdealRules.named_const.ideal_named_scalar _ _ _ _ rfl).trans ?_ <;> congr 2 <;> norm_num

end Cert.GHM

end
-- ==== Proof.Tile.lean ====
/-
  What one block adds to the accumulator words, over the extended reals, read off the kernel's terms.

  `rowsAbove x t k` is the vector the kernel forms for the threshold `k / 10`, one number per row. Whether it adds up the
  columns by a reduction or by a product with a column of ones, a row's number is the same sum (`rowsAbove_apply`). A
  word gains the difference of two neighbouring thresholds' sums over the rows (`stepW_count`, `stepW_loss`).
-/
module

public import proofs.«01_k».proof.Proof.Words
public import proofs.«01_k».proof.Proof.Consts
public import Idealize.ShloMosaic.Lib.Pointwise

@[expose] public section

set_option maxRecDepth 16384

noncomputable section

namespace Cert.GHM

open Cert.KernelIdeal Cert.KernelIdeal.Gen Idealize.ShloMosaic Idealize.ShloMosaic.TcCoe Idealize.SL.Sem

/-- One where the proposition holds and zero elsewhere, as the programs make it: a bit, widened, as a float. -/
def ind (p : Prop) [Decidable p] : EReal := FloatOps.sitofp (F := Ideal) .f32 (BitVec.setWidth 32 (BitVec.ofBool (decide p)))

/-- An indicator is 1 or 0. -/
theorem ind_eq (p : Prop) [Decidable p] : ind p = (((if p then 1 else 0 : ℝ)) : EReal) := by
  unfold ind
  change ((((BitVec.setWidth 32 (BitVec.ofBool (decide p))).toInt : ℝ)) : EReal) = _
  by_cases h : p <;> simp [h]

variable (x : Vec Ideal S1024x1024 .f32) (t : Vec Ideal S1024x1 .i32)

/-- The kernel's vector for the threshold `k / 10`. -/
def rowsAbove : ℕ → FVec Ideal S1024 .f32
  | 1 => k0_pay16 (k0_pay13 x) (k0_pay14 x t) (k0_pay15 x t)
  | 2 => k0_pay21 x k0_pay7 (k0_pay8 x t) (k0_pay9 x)
  | 3 => k0_pay27 x (k0_pay8 x t) (k0_pay9 x)
  | 4 => k0_pay32 x (k0_pay8 x t) (k0_pay9 x)
  | 5 => k0_pay39 (k0_pay8 x t) (k0_pay9 x) (k0_pay37 (k0_pay9 x)) (k0_pay38 x k0_pay7 (k0_pay9 x))
  | 6 => k0_pay44 x (k0_pay8 x t) (k0_pay9 x)
  | 7 => k0_pay49 x (k0_pay8 x t) (k0_pay9 x)
  | 8 => k0_pay54 x k0_pay7 (k0_pay8 x t) (k0_pay9 x)
  | _ => k0_pay59 x (k0_pay8 x t) (k0_pay9 x)

/-- A row's number, from its log-sum `ls`, its target's logit `xt` and the two thresholds' logarithms. -/
def rowAbove (x : Fin 1024 → EReal) (ls xt a b : EReal) : EReal :=
  ∑ c, ind (ls + a < x c) + (ind (xt < ls + b) - ind (ls + a < xt))

/-- A row's count above a threshold. -/
theorem rowsAbove_apply {k : ℕ} (h1 : 1 ≤ k) (h9 : k ≤ 9) (r : Fin 1024) :
    rowsAbove x t k (ix1 r)
      = rowAbove (fun c => x (ix2 r c)) (k0_pay9 x (ix2 r 0)) (k0_pay8 x t (ix2 r 0)) (logAt k) (logAt (10 - k)) := by
  interval_cases k <;> unfold rowsAbove <;>
    pointwise [k0_pay16, k0_pay13, k0_pay14, k0_pay15, k0_pay12, k0_pay21, k0_pay27, k0_pay32, k0_pay39, k0_pay37, k0_pay38,
      k0_pay44, k0_pay49, k0_pay54, k0_pay59, k0_pay7] <;> rfl

/-- The sum of a vector's entries, as the kernel takes it. -/
def total (v : FVec Ideal S1024 .f32) : Ideal .f32 :=
  extractAt ![0, 0] (shapeCast S1x1 (multiReduction .add [1] S1 (shapeCast S1x1024 v shapeCasts_S1024_S1x1024) 0x00000000#32
    reduces_S1x1024_S1 (.inl rfl) rfl) shapeCasts_S1_S1x1) inpos_S1x1_p0_0

/-- A sum over the rows of a block. -/
theorem total_apply (v : FVec Ideal S1024 .f32) : total v = ∑ r, v (ix1 r) := by
  pointwise [total]

/-- The sum over the rows for the threshold `k / 10`; at 0 the number of elements. -/
def sumAbove : ℕ → Ideal .f32
  | 0 => Scalar.ofBits .f32 0x49800000#32
  | k + 1 => total (rowsAbove x t (k + 1))

/-- The same weighted by the rows' losses. -/
def lossAbove : ℕ → Ideal .f32
  | 0 => Scalar.mulf (Scalar.ofBits .f32 0x44800000#32) (total (k0_pay10 x t))
  | k + 1 => total (mulf (k0_pay10 x t) (rowsAbove x t (k + 1)))

variable (acc : Fin 22 → Ideal .f32)

/-- The count words gain the difference of two neighbouring thresholds. -/
theorem stepW_count {b : ℕ} (h : b < 9) :
    stepW x t acc ⟨b + 1, by omega⟩
      = Scalar.addf (acc ⟨b + 1, by omega⟩) (Scalar.subf (sumAbove x t b) (sumAbove x t (b + 1))) := by
  interval_cases b <;> rfl

/-- So do the loss words. -/
theorem stepW_loss {b : ℕ} (h : b < 9) :
    stepW x t acc ⟨b + 12, by omega⟩
      = Scalar.addf (acc ⟨b + 12, by omega⟩) (Scalar.subf (lossAbove x t b) (lossAbove x t (b + 1))) := by
  interval_cases b <;> rfl

/-- The last count word gains the last threshold's sum, -/
theorem stepW_count_last : stepW x t acc 10 = Scalar.addf (acc 10) (sumAbove x t 9) := rfl

/-- the last loss word the weighted one, -/
theorem stepW_loss_last : stepW x t acc 21 = Scalar.addf (acc 21) (lossAbove x t 9) := rfl

/-- and the words of bin 0 stay as they are. -/
theorem stepW_zero : stepW x t acc 0 = acc 0 := rfl

/-- The losses of bin 0 are not written to. -/
theorem stepW_loss_zero : stepW x t acc 11 = acc 11 := rfl

end Cert.GHM

end
-- ==== Proof.Bins.lean ====
/-
  The mathematics of one row, in real numbers.

  A row is `C` logits `y` and a target class `τ`. Its softmax is `prob y`; the size of the loss's gradient at a class is
  `grad y τ`: the class's probability, or, at the target, what the probability lacks to one. The gradients lie strictly
  between 0 and 1 and are put into ten bins of width one tenth, numbered 1 to 10, open below and closed above (`bin`).
  `above y τ k` counts the classes whose gradient exceeds `k / 10`: neighbouring counts differ by a bin's count.
-/
module

public import Mathlib.Analysis.SpecialFunctions.Log.Basic
public import Mathlib.Algebra.BigOperators.Fin
public import Mathlib.Algebra.BigOperators.Field
public import Mathlib.Tactic.IntervalCases
public import Mathlib.Tactic.NormNum

@[expose] public section

noncomputable section

namespace Cert.GHM

variable {C : ℕ} (y : Fin C → ℝ) (τ : Fin C)

/-- The sum of the exponentials of a row. -/
def expSum : ℝ := ∑ c, Real.exp (y c)

/-- The softmax of a row. -/
def prob (c : Fin C) : ℝ := Real.exp (y c) / expSum y

/-- The cross-entropy of a row. -/
def loss : ℝ := Real.log (expSum y) - y τ

/-- The size of the cross-entropy's gradient at a class. -/
def grad (c : Fin C) : ℝ := if c = τ then 1 - prob y τ else prob y c

/-- How many classes have a gradient above `k / 10`. -/
def above (k : ℕ) : ℕ := (Finset.univ.filter fun c => (k / 10 : ℝ) < grad y τ c).card

/-- The bin of a class: how many of 0, 1/10, …, 9/10 its gradient exceeds. -/
def bin (c : Fin C) : ℕ := ((Finset.range 10).filter fun k : ℕ => (k / 10 : ℝ) < grad y τ c).card

/-- How many classes of the row are in bin `b`. -/
def inBin (b : ℕ) : ℕ := (Finset.univ.filter fun c => bin y τ c = b).card

/-- The sum of the exponentials is positive. -/
theorem expSum_pos (c : Fin C) : 0 < expSum y :=
  Finset.sum_pos (fun k _ => Real.exp_pos _) ⟨c, Finset.mem_univ c⟩

/-- A probability is positive. -/
theorem prob_pos (c : Fin C) : 0 < prob y c := div_pos (Real.exp_pos _) (expSum_pos y c)

/-- The probabilities of a row sum to one. -/
theorem sum_prob (c : Fin C) : ∑ k, prob y k = 1 := by
  unfold prob
  rw [← Finset.sum_div]
  exact div_self (expSum_pos y c).ne'

/-- Two classes do not have all of the probability between them unless there are no others; in any case not more. -/
theorem prob_add_le {a b : Fin C} (h : a ≠ b) : prob y a + prob y b ≤ 1 := by
  rw [← sum_prob y a, ← Finset.sum_pair h]
  exact Finset.sum_le_univ_sum_of_nonneg fun k => (prob_pos y k).le

/-- A probability is below one, given another class. -/
theorem prob_lt_one {a b : Fin C} (h : a ≠ b) : prob y a < 1 := by
  have := prob_add_le y h; have := prob_pos y b; linarith

/-- A logit exceeds the row's log-sum by `log a` exactly when the probability exceeds `a`. -/
theorem lt_logit_iff {a : ℝ} (ha : 0 < a) (c : Fin C) : Real.log (expSum y) + Real.log a < y c ↔ a < prob y c := by
  have hS := expSum_pos y c
  rw [← Real.log_mul hS.ne' ha.ne', Real.log_lt_iff_lt_exp (mul_pos hS ha), prob, lt_div_iff₀ hS, mul_comm]

/-- The same, from the other side. -/
theorem logit_lt_iff {a : ℝ} (ha : 0 < a) (c : Fin C) : y c < Real.log (expSum y) + Real.log a ↔ prob y c < a := by
  have hS := expSum_pos y c
  rw [← Real.log_mul hS.ne' ha.ne', Real.lt_log_iff_exp_lt (mul_pos hS ha), prob, div_lt_iff₀ hS, mul_comm]

/-- A gradient is positive, given another class. -/
theorem grad_pos (hC : ∀ c : Fin C, ∃ d, c ≠ d) (c : Fin C) : 0 < grad y τ c := by
  unfold grad
  split
  · obtain ⟨d, hd⟩ := hC τ
    linarith [prob_lt_one y hd]
  · exact prob_pos y c

/-- A gradient is below one, given another class. -/
theorem grad_lt_one (hC : ∀ c : Fin C, ∃ d, c ≠ d) (c : Fin C) : grad y τ c < 1 := by
  unfold grad
  split
  · linarith [prob_pos y τ]
  · obtain ⟨d, hd⟩ := hC c
    exact prob_lt_one y hd

/-- The gradient is what the reference takes: the softmax less the target's unit vector, in absolute value. -/
theorem grad_eq_abs (hC : ∀ c : Fin C, ∃ d, c ≠ d) (c : Fin C) : grad y τ c = |prob y c - if c = τ then 1 else 0| := by
  have h0 := grad_pos y τ hC c
  unfold grad at h0 ⊢
  split at h0
  · next h => subst h; rw [if_pos rfl, if_pos rfl, abs_sub_comm, abs_of_pos h0]
  · next h => rw [if_neg h, if_neg h, sub_zero, abs_of_pos h0]

/-- The count above a threshold, as the kernel takes it: every class by its probability, then the target corrected. -/
theorem above_eq {a b : ℝ} (k : ℕ) (ha : a = k / 10) (hb : b = 1 - k / 10) (ha0 : 0 < a) (hb0 : 0 < b) :
    (∑ c, if Real.log (expSum y) + Real.log a < y c then (1 : ℝ) else 0)
      + ((if y τ < Real.log (expSum y) + Real.log b then 1 else 0) - (if Real.log (expSum y) + Real.log a < y τ then 1 else 0))
      = (above y τ k : ℝ) := by
  simp only [lt_logit_iff y ha0, logit_lt_iff y hb0]
  rw [above, Finset.card_filter, Nat.cast_sum, ← Finset.add_sum_erase _ _ (Finset.mem_univ τ), ← Finset.add_sum_erase _ _ (Finset.mem_univ τ)]
  have e : ∀ c ∈ Finset.univ.erase τ, (if a < prob y c then (1 : ℝ) else 0) = ((if (k / 10 : ℝ) < grad y τ c then 1 else 0 : ℕ) : ℝ) := by
    intro c hc
    rw [grad, if_neg (Finset.ne_of_mem_erase hc), ha]
    push_cast; rfl
  rw [Finset.sum_congr rfl e, grad, if_pos rfl]
  have e2 : (k / 10 : ℝ) < 1 - prob y τ ↔ prob y τ < b := by rw [hb]; constructor <;> intro <;> linarith
  simp only [e2]
  push_cast
  ring

/-- A threshold is exceeded exactly when the bin's number is above it. -/
theorem lt_grad_iff {k : ℕ} (hk : k < 10) (c : Fin C) : (k / 10 : ℝ) < grad y τ c ↔ k < bin y τ c := by
  set p : ℕ → Prop := fun k => (k / 10 : ℝ) < grad y τ c with hp
  have mono : ∀ i j : ℕ, i ≤ j → p j → p i := fun i j hij h => by
    have : (i / 10 : ℝ) ≤ j / 10 := by gcongr
    exact lt_of_le_of_lt this h
  constructor
  · intro h
    have : Finset.range (k + 1) ⊆ (Finset.range 10).filter p := fun i hi => by
      rw [Finset.mem_range] at hi
      exact Finset.mem_filter.2 ⟨Finset.mem_range.2 (by omega), mono i k (by omega) h⟩
    have := Finset.card_le_card this
    rw [Finset.card_range] at this
    exact this
  · intro h
    by_contra hn
    have : (Finset.range 10).filter p ⊆ Finset.range k := fun i hi => by
      rw [Finset.mem_filter] at hi
      rw [Finset.mem_range]
      by_contra hki
      exact hn (mono k i (by omega) hi.2)
    have := Finset.card_le_card this
    rw [Finset.card_range] at this
    exact absurd h (not_lt.2 this)

/-- A bin's number is at most ten. -/
theorem bin_le (c : Fin C) : bin y τ c ≤ 10 := (Finset.card_filter_le _ _).trans (Finset.card_range 10).le

/-- No gradient is in bin 0. -/
theorem one_le_bin (hC : ∀ c : Fin C, ∃ d, c ≠ d) (c : Fin C) : 1 ≤ bin y τ c :=
  (lt_grad_iff y τ (k := 0) (by omega) c).1 (by simpa using grad_pos y τ hC c)

/-- The counts as the kernel takes them: `C` at the start, then what exceeds each threshold, then none. -/
theorem above_eq_card {k : ℕ} (hk : k < 10) : above y τ k = (Finset.univ.filter fun c => k < bin y τ c).card := by
  unfold above
  simp only [lt_grad_iff y τ hk]

/-- Every class exceeds the threshold 0. -/
theorem above_zero (hC : ∀ c : Fin C, ∃ d, c ≠ d) : above y τ 0 = C := by
  have h : ∀ c ∈ Finset.univ, 0 < bin y τ c := fun c _ => one_le_bin y τ hC c
  rw [above_eq_card y τ (by omega), Finset.filter_true_of_mem h, Finset.card_univ, Fintype.card_fin]

/-- Neighbouring counts differ by a bin's. -/
theorem above_succ {k : ℕ} (hk : k + 1 < 10) : (above y τ k : ℝ) - above y τ (k + 1) = inBin y τ (k + 1) := by
  rw [above_eq_card y τ hk, above_eq_card y τ (by omega), inBin, sub_eq_iff_eq_add, ← Nat.cast_add, ← Finset.card_union_of_disjoint]
  · congr 2
    ext c
    simp only [Finset.mem_union, Finset.mem_filter, Finset.mem_univ, true_and]
    omega
  · rw [Finset.disjoint_filter]
    intro c _ h
    omega

/-- The last bin's count. -/
theorem above_nine : above y τ 9 = inBin y τ 10 := by
  rw [above_eq_card y τ (by omega), inBin]
  congr 1
  ext c
  simp only [Finset.mem_filter, Finset.mem_univ, true_and]
  have := bin_le y τ c
  omega

/-- Bin 0 is empty. -/
theorem inBin_zero (hC : ∀ c : Fin C, ∃ d, c ≠ d) : inBin y τ 0 = 0 := by
  rw [inBin, Finset.card_eq_zero, Finset.filter_eq_empty_iff]
  intro c _ h
  have := one_le_bin y τ hC c
  omega

/-- Of two classes beside the target one is below the last bin. -/
theorem exists_bin_lt {a b : Fin C} (ha : a ≠ τ) (hb : b ≠ τ) (h : a ≠ b) : ∃ c, bin y τ c < 10 := by
  by_contra hn
  push Not at hn
  have h9 : ∀ c, c ≠ τ → (9 / 10 : ℝ) < prob y c := fun c hc => by
    have := (lt_grad_iff y τ (k := 9) (by omega) c).2 (by have := hn c; omega)
    rw [grad, if_neg hc] at this
    exact_mod_cast this
  have := prob_add_le y h
  have := h9 a ha
  have := h9 b hb
  linarith

end Cert.GHM

end
-- ==== Proof.Block.lean ====
/-
  What one block adds, as real numbers.

  With finite logits `X` and targets `T` below the number of classes, the target column, the log-sums and the losses of
  the block's rows are real, a row's number for the threshold `k / 10` is the number of its gradients above it, and the
  words gain the number of the block's gradients in each bin (`step_count`) and the losses as often (`step_loss`).
-/
module

public import proofs.«01_k».proof.Proof.Tile
public import proofs.«01_k».proof.Proof.Bins

@[expose] public section

set_option maxRecDepth 16384

noncomputable section

namespace Cert.GHM

open Cert.KernelIdeal Cert.KernelIdeal.Gen Idealize.ShloMosaic Idealize.ShloMosaic.TcCoe Idealize.SL.Sem

/-- A finite sum of reals, read in the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- Beside any class there is another. -/
theorem two_classes (τ : Fin 1024) : ∃ d, τ ≠ d := by
  by_cases h : τ = 0
  · exact ⟨1, by rw [h]; decide⟩
  · exact ⟨0, h⟩

variable {x : Vec Ideal S1024x1024 .f32} {t : Vec Ideal S1024x1 .i32} {X : Fin 1024 → Fin 1024 → ℝ} {T : Fin 1024 → Fin 1024}

/-- The block holds the logits `X` and the targets `T`. -/
structure Holds (x : Vec Ideal S1024x1024 .f32) (t : Vec Ideal S1024x1 .i32) (X : Fin 1024 → Fin 1024 → ℝ)
    (T : Fin 1024 → Fin 1024) : Prop where
  logit : ∀ r c, x (ix2 r c) = ((X r c : ℝ) : EReal)
  target : ∀ r, t (ix2 r 0) = BitVec.ofNat 32 (T r).val

/-- The column of the target's logits: a sum against the one-hot row. -/
theorem target_logit (h : Holds x t X T) (r : Fin 1024) : k0_pay8 x t (ix2 r 0) = ((X r (T r) : ℝ) : EReal) := by
  have hp : k0_pay8 x t (ix2 r 0) = ∑ k : Fin 1024, x (ix2 r k) * ind (BitVec.ofNat 32 k.val = t (ix2 r 0)) := by
    pointwise [k0_pay8]
    rfl
  rw [hp, Finset.sum_eq_single (T r)]
  · rw [h.logit, h.target, ind_eq, if_pos rfl, EReal.coe_one, mul_one]
  · intro k _ hk
    rw [h.target, ind_eq, if_neg, EReal.coe_zero, mul_zero]
    intro e
    have := congrArg BitVec.toNat e
    simp only [BitVec.toNat_ofNat] at this
    exact hk (Fin.ext (by omega))
  · exact fun hn => absurd (Finset.mem_univ _) hn

/-- The column of log-sums. -/
theorem log_sum (h : Holds x t X T) (r : Fin 1024) : k0_pay9 x (ix2 r 0) = ((Real.log (expSum (X r)) : ℝ) : EReal) := by
  have hp : k0_pay9 x (ix2 r 0) = Ideal.log (∑ k : Fin 1024, Ideal.exp (x (ix2 r k))) := by
    pointwise [k0_pay9]
  have hs : ∑ k : Fin 1024, Ideal.exp (x (ix2 r k)) = ((expSum (X r) : ℝ) : EReal) := by
    rw [expSum, coe_sum]
    exact Finset.sum_congr rfl fun k _ => by rw [h.logit, Ideal.exp_coe]
  rw [hp, hs, Ideal.log_coe, if_neg (expSum_pos (X r) 0).not_ge]

/-- The vector of losses. -/
theorem row_loss (h : Holds x t X T) (r : Fin 1024) : k0_pay10 x t (ix1 r) = ((loss (X r) (T r) : ℝ) : EReal) := by
  have hp : k0_pay10 x t (ix1 r) = k0_pay9 x (ix2 r 0) - k0_pay8 x t (ix2 r 0) := by
    pointwise [k0_pay10]
  rw [hp, log_sum h, target_logit h, ← EReal.coe_sub, loss]

/-- A row's number for a threshold. -/
theorem row_above (h : Holds x t X T) {k : ℕ} (h1 : 1 ≤ k) (h9 : k ≤ 9) (r : Fin 1024) :
    rowsAbove x t k (ix1 r) = ((above (X r) (T r) k : ℝ) : EReal) := by
  have hk1 : (1 : ℝ) ≤ k := by exact_mod_cast h1
  have hk9 : (k : ℝ) ≤ 9 := by exact_mod_cast h9
  have hsub : (((10 - k : ℕ) : ℝ) / 10) = 1 - k / 10 := by
    rw [Nat.cast_sub (by omega)]; push_cast; ring
  rw [rowsAbove_apply x t h1 h9, rowAbove, log_sum h, target_logit h, logAt_eq h1 h9, logAt_eq (by omega) (by omega),
    ← above_eq (X r) (T r) k rfl hsub (by positivity) (by rw [hsub]; linarith)]
  simp only [ind_eq, h.logit, ← EReal.coe_add, ← EReal.coe_sub, EReal.coe_lt_coe_iff, ← coe_sum]

/-- The sum over the rows for a threshold, also for none. -/
theorem sumAbove_eq (h : Holds x t X T) {k : ℕ} (h9 : k ≤ 9) :
    sumAbove x t k = ((∑ r, (above (X r) (T r) k : ℝ) : ℝ) : EReal) := by
  cases k with
  | zero =>
    simp only [above_zero _ _ two_classes]
    refine ofBits_2e20.trans ?_
    rw [Finset.sum_const, Finset.card_univ, Fintype.card_fin, nsmul_eq_mul]
    norm_num
  | succ k =>
    rw [sumAbove, total_apply, coe_sum]
    exact Finset.sum_congr rfl fun r _ => row_above h (by omega) h9 r

/-- The same weighted by the losses. -/
theorem lossAbove_eq (h : Holds x t X T) {k : ℕ} (h9 : k ≤ 9) :
    lossAbove x t k = ((∑ r, loss (X r) (T r) * (above (X r) (T r) k : ℝ) : ℝ) : EReal) := by
  cases k with
  | zero =>
    simp only [above_zero _ _ two_classes]
    have hl : total (k0_pay10 x t) = ((∑ r, loss (X r) (T r) : ℝ) : EReal) := by
      rw [total_apply, coe_sum]
      exact Finset.sum_congr rfl fun r _ => row_loss h r
    rw [lossAbove, hl, ← Finset.sum_mul, mul_comm, EReal.coe_mul]
    refine (congrArg (· * _) ofBits_1024).trans ?_
    norm_num
  | succ k =>
    rw [lossAbove, total_apply, coe_sum]
    refine Finset.sum_congr rfl fun r _ => ?_
    rw [EReal.coe_mul, ← row_loss h r, ← row_above h (by omega) h9 r]
    rfl

variable (acc : Fin 22 → Ideal .f32)

/-- A count word gains the number of the block's gradients in its bin. -/
theorem step_count (h : Holds x t X T) {b : ℕ} (hb : b ≤ 10) :
    stepW x t acc ⟨b, by omega⟩ = acc ⟨b, by omega⟩ + ((∑ r, (inBin (X r) (T r) b : ℝ) : ℝ) : EReal) := by
  rcases Nat.eq_zero_or_pos b with rfl | h0
  · simp only [inBin_zero _ _ two_classes, Nat.cast_zero, Finset.sum_const_zero, EReal.coe_zero, add_zero]
    exact stepW_zero x t acc
  obtain ⟨b, rfl⟩ : ∃ a, b = a + 1 := ⟨b - 1, by omega⟩
  rcases Nat.lt_or_ge b 9 with h9 | h9
  · refine (stepW_count x t acc h9).trans ?_
    rw [sumAbove_eq h (by omega), sumAbove_eq h (by omega)]
    simp only [← above_succ (_ : Fin 1024 → ℝ) _ (show b + 1 < 10 by omega), Finset.sum_sub_distrib, EReal.coe_sub]
    rfl
  · obtain rfl : b = 9 := by omega
    refine (stepW_count_last x t acc).trans ?_
    rw [sumAbove_eq h (by omega)]
    simp only [above_nine]
    rfl

/-- A loss word gains the block's losses, each as often as its row has a gradient in the word's bin. -/
theorem step_loss (h : Holds x t X T) {b : ℕ} (hb : b ≤ 10) :
    stepW x t acc ⟨b + 11, by omega⟩
      = acc ⟨b + 11, by omega⟩ + ((∑ r, loss (X r) (T r) * (inBin (X r) (T r) b : ℝ) : ℝ) : EReal) := by
  rcases Nat.eq_zero_or_pos b with rfl | h0
  · simp only [inBin_zero _ _ two_classes, Nat.cast_zero, mul_zero, Finset.sum_const_zero, EReal.coe_zero, add_zero]
    exact stepW_loss_zero x t acc
  obtain ⟨b, rfl⟩ : ∃ a, b = a + 1 := ⟨b - 1, by omega⟩
  rcases Nat.lt_or_ge b 9 with h9 | h9
  · refine (stepW_loss x t acc h9).trans ?_
    rw [lossAbove_eq h (by omega), lossAbove_eq h (by omega)]
    simp only [← above_succ (_ : Fin 1024 → ℝ) _ (show b + 1 < 10 by omega), mul_sub, Finset.sum_sub_distrib, EReal.coe_sub]
    rfl
  · obtain rfl : b = 9 := by omega
    refine (stepW_loss_last x t acc).trans ?_
    rw [lossAbove_eq h (by omega)]
    simp only [above_nine]
    rfl

end Cert.GHM

end
-- ==== Proof.Equation.lean ====
/-
  The equation: the two ways of adding up the weighted losses agree.

  Over all rows, `hist b` is how many gradients lie in bin `b` and `lossIn b` is the sum over the rows of the loss times
  the row's count in bin `b`. The reference weights every gradient of every row by its bin's weight and averages twice;
  the kernel weights `lossIn b` once per bin. The last bin is weighted by its neighbour's count in both.
-/
module

public import proofs.«01_k».proof.Proof.Bins

@[expose] public section

noncomputable section

namespace Cert.GHM

variable {N C : ℕ} (X : Fin N → Fin C → ℝ) (T : Fin N → Fin C)

/-- How many gradients are in bin `b`. -/
def hist (b : ℕ) : ℕ := ∑ n, inBin (X n) (T n) b

/-- The losses, each as often as its row has a gradient in bin `b`. -/
def lossIn (b : ℕ) : ℝ := ∑ n, loss (X n) (T n) * inBin (X n) (T n) b

/-- How many of the bins 0 to 9 are not empty. -/
def occupied : ℕ := ((Finset.range 10).filter fun b => 0 < hist X T b).card

/-- The weight's divisor of bin `b`: its count, or that of bin 9 for the last, at least one. -/
def clipped (b : ℕ) : ℝ := max (hist X T (min b 9) : ℝ) 1

/-- The result as the kernel computes it. -/
def kernelSum : ℝ := (∑ b ∈ Finset.range 11, lossIn X T b * (occupied X T / clipped X T b)) / (N * C)

/-- The mean weight of a row, as the reference computes it. -/
def rowWeight (n : Fin N) : ℝ := (∑ c, 1 / (clipped X T (bin (X n) (T n) c) / occupied X T)) / C

/-- The result as the reference computes it. -/
def referenceSum : ℝ := (∑ n, loss (X n) (T n) * rowWeight X T n) / N

/-- A weight's divisor is positive. -/
theorem clipped_pos (b : ℕ) : 0 < clipped X T b := lt_max_of_lt_right one_pos

/-- The count of a bin is the number of pairs of a row and a class in it. -/
theorem hist_eq_sum (b : ℕ) : hist X T b = ∑ n, ∑ c, if bin (X n) (T n) c = b then 1 else 0 := by
  unfold hist inBin
  simp only [Finset.card_filter]

/-- A row's sum over its classes of a function of the bin, bin by bin. -/
theorem sum_bin (y : Fin C → ℝ) (τ : Fin C) (w : ℕ → ℝ) : ∑ c, w (bin y τ c) = ∑ b ∈ Finset.range 11, inBin y τ b * w b := by
  rw [← Finset.sum_fiberwise_of_maps_to (g := bin y τ) (t := Finset.range 11) fun c _ =>
    Finset.mem_range.2 (Nat.lt_succ_of_le (bin_le y τ c))]
  refine Finset.sum_congr rfl fun b _ => ?_
  rw [inBin, ← nsmul_eq_mul, ← Finset.sum_const]
  exact Finset.sum_congr rfl fun c hc => by rw [(Finset.mem_filter.1 hc).2]

/-- The two results are one number. -/
theorem kernelSum_eq : kernelSum X T = referenceSum X T := by
  unfold kernelSum referenceSum rowWeight
  simp only [one_div_div, sum_bin _ _ fun b => (occupied X T : ℝ) / clipped X T b, lossIn, Finset.sum_mul]
  rw [Finset.sum_comm, mul_comm (N : ℝ), ← div_div]
  congr 1
  rw [Finset.sum_div]
  refine Finset.sum_congr rfl fun n _ => ?_
  rw [← mul_div_assoc, Finset.mul_sum]
  congr 1
  exact Finset.sum_congr rfl fun b _ => mul_assoc _ _ _

/-- Some bin below the last is occupied, when there is a row and it has two classes beside its target. -/
theorem occupied_pos (hC : ∀ τ : Fin C, ∃ a b : Fin C, a ≠ τ ∧ b ≠ τ ∧ a ≠ b) (n : Fin N) : 0 < occupied X T := by
  obtain ⟨a, b, ha, hb, hab⟩ := hC (T n)
  obtain ⟨c, hc⟩ := exists_bin_lt (X n) (T n) ha hb hab
  refine Finset.card_pos.2 ⟨bin (X n) (T n) c, Finset.mem_filter.2 ⟨Finset.mem_range.2 hc, ?_⟩⟩
  refine Finset.sum_pos' (fun _ _ => Nat.zero_le _) ⟨n, Finset.mem_univ n, ?_⟩
  exact Finset.card_pos.2 ⟨c, Finset.mem_filter.2 ⟨Finset.mem_univ c, rfl⟩⟩

end Cert.GHM

end
-- ==== Proof.Total.lean ====
/-
  The kernel's number, as a real.

  Over all thirty-two blocks the words add up to the histogram of the gradients and, bin by bin, to the losses
  (`words_last`); the number written out at the end is then `kernelSum` (`result_eq`).
-/
module

public import proofs.«01_k».proof.Proof.Block
public import proofs.«01_k».proof.Proof.Sweep
public import proofs.«01_k».proof.Proof.Equation

@[expose] public section

set_option maxRecDepth 16384

noncomputable section

namespace Cert.GHM

open Cert.KernelIdeal Cert.KernelIdeal.Gen Idealize.ShloMosaic Idealize.ShloMosaic.TcCoe Idealize.SL.Sem

/-- How many of the first `n` count words are positive, as the kernel counts them. -/
def positives (w : Fin 22 → Ideal .f32) : ℕ → Ideal .f32
  | 0 => Scalar.ofBits .f32 0x00000000#32
  | b + 1 => Scalar.addf (positives w b) (Scalar.select (Scalar.cmpf .ogt (w (Fin.ofNat 22 b)) (Scalar.ofBits .f32 0x00000000#32))
      (Scalar.ofBits .f32 0x3F800000#32) (Scalar.ofBits .f32 0x00000000#32))

/-- The first `n` bins' losses, each weighted by the bin's count. -/
def weighted (w : Fin 22 → Ideal .f32) : ℕ → Ideal .f32
  | 0 => Scalar.ofBits .f32 0x00000000#32
  | b + 1 => Scalar.addf (weighted w b) (Scalar.mulf (w (Fin.ofNat 22 (b + 11)))
      (Scalar.divf (positives w 10) (Scalar.maximumf (w (Fin.ofNat 22 (min b 9))) (Scalar.ofBits .f32 0x3F800000#32))))

/-- What the last block writes out, in these terms. -/
theorem finishW_eq (w : Fin 22 → Ideal .f32) : finishW w = Scalar.divf (weighted w 11) (Scalar.ofBits .f32 0x4C000000#32) := rfl

/-- The words are a histogram and its losses. -/
structure Words (w : Fin 22 → Ideal .f32) (H : ℕ → ℕ) (L : ℕ → ℝ) : Prop where
  count : ∀ b, (h : b ≤ 10) → w ⟨b, by omega⟩ = ((H b : ℝ) : EReal)
  loss : ∀ b, (h : b ≤ 10) → w ⟨b + 11, by omega⟩ = ((L b : ℝ) : EReal)

variable {w : Fin 22 → Ideal .f32} {H : ℕ → ℕ} {L : ℕ → ℝ}

/-- The kernel counts the bins that are not empty. -/
theorem positives_eq (hw : Words w H L) : ∀ n, n ≤ 10 →
    positives w n = ((((Finset.range n).filter fun b => 0 < H b).card : ℝ) : EReal)
  | 0, _ => ofBits_zero.trans (by simp)
  | n + 1, hn => by
    have hb : w (Fin.ofNat 22 n) = ((H n : ℝ) : EReal) :=
      (congrArg w (Fin.ext (Nat.mod_eq_of_lt (by omega)))).trans (hw.count n (by omega))
    have hz : (Scalar.ofBits .f32 0x00000000#32 : Ideal .f32) = ((0 : ℝ) : EReal) := ofBits_zero
    have ho : (Scalar.ofBits .f32 0x3F800000#32 : Ideal .f32) = ((1 : ℝ) : EReal) := ofBits_one
    rw [positives, positives_eq hw n (by omega), hb, hz, ho, Finset.range_add_one, Finset.filter_insert]
    show _ + (if BitVec.ofBool (decide (((H n : ℝ) : EReal) > ((0 : ℝ) : EReal))) = 1#1 then _ else _) = _
    by_cases h : 0 < H n
    · have h' : ((H n : ℝ) : EReal) > ((0 : ℝ) : EReal) := EReal.coe_lt_coe_iff.2 (by exact_mod_cast h)
      rw [if_pos h, Finset.card_insert_of_notMem (by simp), decide_eq_true h', Nat.cast_add, EReal.coe_add]
      simp
    · have h' : ¬ ((H n : ℝ) : EReal) > ((0 : ℝ) : EReal) := fun e => h (by exact_mod_cast EReal.coe_lt_coe_iff.1 e)
      rw [if_neg h, decide_eq_false h']
      simp

/-- The kernel's sum over the first bins, as a real. -/
theorem weighted_eq (hw : Words w H L) : ∀ n, n ≤ 11 →
    weighted w n = ((∑ b ∈ Finset.range n, L b * (((Finset.range 10).filter fun b => 0 < H b).card / max (H (min b 9) : ℝ) 1) : ℝ) : EReal)
  | 0, _ => ofBits_zero.trans (by simp)
  | n + 1, hn => by
    have hl : w (Fin.ofNat 22 (n + 11)) = ((L n : ℝ) : EReal) :=
      (congrArg w (Fin.ext (Nat.mod_eq_of_lt (by omega)))).trans (hw.loss n (by omega))
    have hb : w (Fin.ofNat 22 (min n 9)) = ((H (min n 9) : ℝ) : EReal) :=
      (congrArg w (Fin.ext (Nat.mod_eq_of_lt (by omega)))).trans (hw.count (min n 9) (by omega))
    have ho : (Scalar.ofBits .f32 0x3F800000#32 : Ideal .f32) = ((1 : ℝ) : EReal) := ofBits_one
    have hp : max (H (min n 9) : ℝ) 1 ≠ 0 := (lt_max_of_lt_right one_pos).ne'
    rw [weighted, weighted_eq hw n (by omega), hl, hb, ho, positives_eq hw 10 le_rfl, Finset.sum_range_succ]
    show _ + _ * Ideal.div _ (max _ _) = _
    rw [← EReal.coe_strictMono.monotone.map_max, Ideal.div_coe hp, ← EReal.coe_mul, ← EReal.coe_mul, ← EReal.coe_add, mul_one_div]

/-- What the last block writes out, as a real. -/
theorem finishW_real (hw : Words w H L) :
    finishW w = (((∑ b ∈ Finset.range 11, L b * (((Finset.range 10).filter fun b => 0 < H b).card / max (H (min b 9) : ℝ) 1))
      / (32768 * 1024) : ℝ) : EReal) := by
  have hn : (Scalar.ofBits .f32 0x4C000000#32 : Ideal .f32) = ((32768 * 1024 : ℝ) : EReal) := ofBits_2e25
  rw [finishW_eq, weighted_eq hw 11 le_rfl, hn]
  show Ideal.div _ _ = _
  rw [Ideal.div_coe (by norm_num), ← EReal.coe_mul, mul_one_div]

variable (m : (ℓ : Loc nD τ sig) → Buf (Elt Ideal) ℓ) (c : Dev nD)
variable {X : Fin 32768 → Fin 1024 → ℝ} {T : Fin 32768 → Fin 1024}

/-- The arguments are the logits `X` and the targets `T`. -/
structure Inputs (x : Vec Ideal S32768x1024 .f32) (t : Vec Ideal S32768 .i32) (X : Fin 32768 → Fin 1024 → ℝ)
    (T : Fin 32768 → Fin 1024) : Prop where
  logit : ∀ n k, x (ix2 n k) = ((X n k : ℝ) : EReal)
  target : ∀ n, t (ix1 n) = BitVec.ofNat 32 (T n).val

/-- The sum of `f` over the rows of the blocks up to point `n`. -/
def upTo (f : Fin 32768 → ℝ) (n : ℕ) (h : n < 32) : ℝ :=
  ∑ p : Fin (n + 1), ∑ r, f (rowOf p.val (lt_of_le_of_lt (Nat.le_of_lt_succ p.isLt) h) r)

variable (hI : Inputs (m ((c : Thread nD τ).loc main_arg0)) (m ((c : Thread nD τ).loc main_arg1)) X T)

include hI

/-- Each block holds its rows of them. -/
theorem block_holds (n : ℕ) (h : n < cfg0.N) :
    Holds (xblk m c n h) (tblk m c n h) (fun r => X (rowOf n (lt_of_lt_of_eq h N_0) r)) (fun r => T (rowOf n (lt_of_lt_of_eq h N_0) r)) where
  logit r k := (xblk_apply m c n h r k).trans (hI.logit _ _)
  target r := (tblk_apply m c n h r 0).trans (hI.target _)

omit hI in
/-- The first block. -/
theorem upTo_zero (f : Fin 32768 → ℝ) (h : 0 < 32) : upTo f 0 h = ∑ r, f (rowOf 0 h r) := by
  rw [upTo, Fin.sum_univ_one]
  rfl

omit hI in
/-- One block more. -/
theorem upTo_succ (f : Fin 32768 → ℝ) (n : ℕ) (h : n + 1 < 32) :
    upTo f (n + 1) h = upTo f n (Nat.lt_of_succ_lt h) + ∑ r, f (rowOf (n + 1) h r) := by
  rw [upTo, Fin.sum_univ_castSucc]
  rfl

/-- A count word after point `n`: its bin's count over the blocks so far. -/
theorem count_at {b : ℕ} (hb : b ≤ 10) : ∀ (n : ℕ) (h : n < cfg0.N),
    wordsAt m c n h ⟨b, by omega⟩ = ((upTo (fun i => inBin (X i) (T i) b) n (lt_of_lt_of_eq h N_0) : ℝ) : EReal)
  | 0, h => by
    rw [wordsAt, step_count _ (block_holds m c hI 0 h) hb, upTo_zero]
    exact (congrArg (· + _) ofBits_zero).trans (by rw [EReal.coe_zero, zero_add])
  | n + 1, h => by
    rw [wordsAt, step_count _ (block_holds m c hI (n + 1) h) hb, count_at hb n, upTo_succ, EReal.coe_add]

/-- A loss word after point `n`. -/
theorem loss_at {b : ℕ} (hb : b ≤ 10) : ∀ (n : ℕ) (h : n < cfg0.N), wordsAt m c n h ⟨b + 11, by omega⟩
    = ((upTo (fun i => loss (X i) (T i) * inBin (X i) (T i) b) n (lt_of_lt_of_eq h N_0) : ℝ) : EReal)
  | 0, h => by
    rw [wordsAt, step_loss _ (block_holds m c hI 0 h) hb, upTo_zero]
    exact (congrArg (· + _) ofBits_zero).trans (by rw [EReal.coe_zero, zero_add])
  | n + 1, h => by
    rw [wordsAt, step_loss _ (block_holds m c hI (n + 1) h) hb, loss_at hb n, upTo_succ, EReal.coe_add]

omit hI in
/-- A sum block by block is a sum over all rows. -/
theorem sum_blocks (f : Fin 32768 → ℝ) : ∑ p : Fin 32, ∑ r : Fin 1024, f (rowOf p.val p.isLt r) = ∑ n, f n := by
  rw [← Fintype.sum_prod_type' fun (p : Fin 32) (r : Fin 1024) => f (rowOf p.val p.isLt r)]
  refine Fintype.sum_equiv (finProdFinEquiv (m := 32) (n := 1024)) _ _ fun q => congrArg f (Fin.ext ?_)
  show q.1.val * 1024 + q.2.val = q.2.val + 1024 * q.1.val
  omega

/-- The words after the last point. -/
theorem words_last : Words (wordsAt m c 31 lt31) (hist X T) (lossIn X T) where
  count b h := by
    rw [count_at m c hI h 31 lt31, hist, Nat.cast_sum]
    exact congrArg _ (sum_blocks fun i => (inBin (X i) (T i) b : ℝ))
  loss b h := by
    rw [loss_at m c hI h 31 lt31, lossIn]
    exact congrArg _ (sum_blocks fun i => loss (X i) (T i) * (inBin (X i) (T i) b : ℝ))

/-- The array the kernel's run ends with. -/
theorem result_eq : result m c = fun _ => ((kernelSum X T : ℝ) : EReal) := by
  funext _
  refine (finishW_real (words_last m c hI)).trans ?_
  unfold kernelSum occupied clipped
  rw [show ((32768 : ℕ) : ℝ) = 32768 from Nat.cast_ofNat, show ((1024 : ℕ) : ℝ) = 1024 from Nat.cast_ofNat]

end Cert.GHM

end
-- ==== Proof.Lookup.lean ====
/-
  The reference's table operations read at an index: the two gathers, the histogram's scatter and the one update of the
  bin edges. A gather's index is read signed and clamped into the table; a scatter's update whose index is outside the
  table is dropped.
-/
module

public import proofs.«01_k».proof.Proof.Gen.ReferenceIdeal.Read
public import Idealize.ShloMosaic.Lib.Pointwise
public import Idealize.ShloMosaic.Lib.Routing.OpsPair
public import Idealize.ShloMosaic.Lib.Routing.OpsOne

@[expose] public section

set_option maxRecDepth 16384

noncomputable section

namespace Cert.GHM

open Cert.ReferenceIdeal Cert.ReferenceIdeal.Gen Idealize.ShloMosaic Idealize.ShloMosaic.TcCoe Idealize.SL.Sem

/-- The gather of one column per row. -/
theorem gather_column {α : Type} (y : S32768x1024.Idx → α) (idx : IVec S32768x1x1 32) (n : Fin 32768) :
    Host.gather gather_S32768x1024_S32768x1x1_S32768x1_n_1_0_0_1_2_11 y idx (ix2 n 0)
      = y (ix2 n ⟨min (idx (ix3 n 0 0)).toInt.toNat 1023, by omega⟩) := by
  unfold Host.gather
  refine congrArg y ?_
  funext a
  match a with
  | ⟨0, _⟩ =>
    refine Fin.ext ?_
    show GatherDims.start _ _ _ _ + GatherDims.batchCoord _ _ _ + GatherDims.offCoord _ _ _ = n.val
    rw [GatherDims.start_batching _ _ _ _ (List.mem_singleton.2 rfl),
      GatherDims.offCoord_eq_zero _ _ _ (fun h => ((GatherDims.mem_sKept _ _).1 h).2 (List.mem_singleton.2 rfl)),
      Nat.zero_add, Nat.add_zero]
    unfold GatherDims.batchCoord
    refine (dif_pos (List.mem_singleton.2 rfl)).trans ?_
    rfl
  | ⟨1, _⟩ =>
    refine Fin.ext ?_
    show GatherDims.start _ _ _ _ + GatherDims.batchCoord _ _ _ + GatherDims.offCoord _ _ _ = min (idx (ix3 n 0 0)).toInt.toNat 1023
    rw [GatherDims.batchCoord_eq_zero _ _ _ (fun h => by simpa using List.mem_singleton.1 h),
      GatherDims.offCoord_eq_zero _ _ _ (fun h => ((GatherDims.mem_sKept _ _).1 h).1 (List.mem_singleton.2 rfl)),
      Nat.add_zero]
    unfold GatherDims.start
    refine (dif_pos (List.mem_singleton.2 rfl)).trans ?_
    refine congrArg (fun i => min (idx i).toInt.toNat 1023) ?_
    funext b
    match b with
    | ⟨0, _⟩ => rfl
    | ⟨1, _⟩ => rfl
    | ⟨2, _⟩ => rfl

/-- The gather of one table entry per element. -/
theorem gather_table {α : Type} (y : S10.Idx → α) (idx : IVec S32768x1024x1 32) (n : Fin 32768) (k : Fin 1024) :
    Host.gather gather_S10_S32768x1024x1_S32768x1024_n_0_n_n_0_2_1 y idx (ix2 n k)
      = y (ix1 ⟨min (idx (ix3 n k 0)).toInt.toNat 9, by omega⟩) := by
  unfold Host.gather
  refine congrArg y ?_
  funext a
  match a with
  | ⟨0, _⟩ =>
    refine Fin.ext ?_
    show GatherDims.start _ _ _ _ + GatherDims.batchCoord _ _ _ + GatherDims.offCoord _ _ _ = min (idx (ix3 n k 0)).toInt.toNat 9
    rw [GatherDims.batchCoord_eq_zero _ _ _ (fun h => List.not_mem_nil h),
      GatherDims.offCoord_eq_zero _ _ _ (fun h => ((GatherDims.mem_sKept _ _).1 h).1 (List.mem_singleton.2 rfl)),
      Nat.add_zero]
    unfold GatherDims.start
    refine (dif_pos (List.mem_singleton.2 rfl)).trans ?_
    refine congrArg (fun i => min (idx i).toInt.toNat 9) ?_
    funext b
    match b with
    | ⟨0, _⟩ => rfl
    | ⟨1, _⟩ => rfl
    | ⟨2, _⟩ => rfl

/-- Where an update of the histogram lands. -/
theorem scatter_lands (idx : IVec S32768x1024x1 32) (n : Fin 32768) (k : Fin 1024) (b : Fin 10) :
    scatter_S10_S32768x1024x1_S32768x1024_n_0_0_2.resultIdx? (ix2 n k) idx = some (ix1 b)
      ↔ (idx (ix3 n k 0)).toInt = (b.val : ℤ) := by
  refine (Routing.resultIdx?_ix1 (N := 10) scatter_S10_S32768x1024x1_S32768x1024_n_0_0_2 (ix2 n k) idx b).trans ?_
  have hw : scatter_S10_S32768x1024x1_S32768x1024_n_0_0_2.window (ix2 n k) 0 = 0 := by
    unfold ScatterDims.window
    rw [dif_neg fun h => (of_decide_eq_true (List.mem_filter.1 h).2) (List.mem_singleton.2 rfl)]
  have hs : scatter_S10_S32768x1024x1_S32768x1024_n_0_0_2.start (ix2 n k) idx 0 = (idx (ix3 n k 0)).toInt := by
    unfold ScatterDims.start
    refine (dif_pos (List.mem_singleton.2 rfl)).trans ?_
    refine congrArg (fun i => (idx i).toInt) ?_
    funext b
    match b with
    | ⟨0, _⟩ => rfl
    | ⟨1, _⟩ => rfl
    | ⟨2, _⟩ => rfl
  rw [hs, hw, Nat.cast_zero, add_zero]

/-- The update of one entry of the edges by an addition. -/
theorem scatter_edge (y : S11.Idx → EReal) (idx : IVec S1 32) (u : S_.Idx → EReal) (k : Fin 11)
    (hidx : (idx (ix1 0)).toInt = (k.val : ℤ)) (e : Fin 11) :
    Host.scatter scatter_S11_S1_S__n_0_0_0 (FloatOps.addf (F := Ideal) (φ := .f32)) y idx u (ix1 e)
      = if e = k then y (ix1 e) + u ix0 else y (ix1 e) := by
  have h : scatter_S11_S1_S__n_0_0_0.resultIdx? ix0 idx = some (ix1 e) ↔ e = k :=
    Routing.lands_one (N := 11) scatter_S11_S1_S__n_0_0_0 rfl rfl idx k hidx e
  rw [Routing.scatter_at, show (List.finRange (Shape.numel S_)) = [⟨0, by decide⟩] from rfl]
  show (if _ then _ else _) = _
  rw [show S_.rowMajor.symm ⟨0, by decide⟩ = ix0 from funext fun a => a.elim0]
  by_cases he : e = k
  · rw [if_pos he, if_pos (h.2 he)]; rfl
  · rw [if_neg he, if_neg (mt h.1 he)]

end Cert.GHM

end
-- ==== Proof.RefRow.lean ====
/-
  The reference's rows, as real numbers: its softmax, its log-softmax, its loss and its gradient's size.

  The reference subtracts the row's largest logit before exponentiating; a softmax and a log-softmax do not depend on what
  is subtracted (`expSum_shift`).
-/
module

public import proofs.«01_k».proof.Proof.Lookup
public import proofs.«01_k».proof.Proof.Consts
public import proofs.«01_k».proof.Proof.Block

@[expose] public section

set_option maxRecDepth 16384

noncomputable section

namespace Cert.GHM

open Cert.ReferenceIdeal Cert.ReferenceIdeal.Gen Cert.ReferenceIdeal.Read Idealize.ShloMosaic Idealize.ShloMosaic.TcCoe
open Idealize.SL.Sem Idealize.ShloMosaic.StableHlo

/-- Subtracting `M` from every logit divides the sum of the exponentials by that of `M`. -/
theorem expSum_shift {C : ℕ} (y : Fin C → ℝ) (M : ℝ) : ∑ k, Real.exp (y k - M) = expSum y * Real.exp (-M) := by
  rw [expSum, Finset.sum_mul]
  exact Finset.sum_congr rfl fun k _ => by rw [← Real.exp_add, sub_eq_add_neg]

/-- The largest of finitely many reals, from minus infinity, is one of them. -/
theorem fold_max (y : Fin 1024 → ℝ) :
    ∃ M : ℝ, Finset.fold max (Ideal.ofBits .f32 0xFF800000#32) (fun k => ((y k : ℝ) : EReal)) Finset.univ = (M : EReal) := by
  obtain ⟨k, -, hk⟩ := Finset.exists_mem_eq_sup Finset.univ ⟨(0 : Fin 1024), Finset.mem_univ _⟩ fun k => ((y k : ℝ) : EReal)
  exact ⟨y k, by rw [ofBits_bot]; exact hk⟩

variable {x : Vec Ideal S32768x1024 .f32} {t : Vec Ideal S32768 .i32} {X : Fin 32768 → Fin 1024 → ℝ} {T : Fin 32768 → Fin 1024}

/-- The row's largest logit, once more compared with minus infinity. -/
theorem ref_max (hx : ∀ n k, x (ix2 n k) = ((X n k : ℝ) : EReal)) (n : Fin 32768) :
    ∃ M : ℝ, val_main_v12 (F := Ideal) x (ix1 n) = (M : EReal) ∧ val_main_call0_v2 (F := Ideal) x (ix1 n) = (M : EReal) := by
  obtain ⟨M, hM⟩ := fold_max (X n)
  have h10 : val_main_v10 (F := Ideal) x (ix1 n) = (M : EReal) := by
    have h : val_main_v10 (F := Ideal) x (ix1 n)
        = Finset.fold max (Ideal.ofBits .f32 0xFF800000#32) (fun k => x (ix2 n k)) Finset.univ := by
      pointwise [val_main_v10, val_main_cst_1]
    rw [h, ← hM]
    simp only [hx]
  have hv : ∀ y : FVec Ideal S32768 .f32, y (ix1 n) = (M : EReal) → maximumf (val_main_v11 (F := Ideal)) y (ix1 n) = (M : EReal) :=
    fun y hy => by
      have h : maximumf (val_main_v11 (F := Ideal)) y (ix1 n) = max (Ideal.ofBits .f32 0xFF800000#32) (y (ix1 n)) := by
        pointwise [val_main_v11, val_main_cst_2]
      rw [h, hy, ofBits_bot, max_eq_right bot_le]
  exact ⟨M, hv _ h10, hv _ h10⟩

/-- The exponential of a logit less the maximum. -/
theorem ref_exp_at (n : Fin 32768) (c : Fin 1024) :
    val_main_v16 (F := Ideal) x (ix2 n c) = Ideal.exp (x (ix2 n c) - val_main_v12 (F := Ideal) x (ix1 n)) := by
  unfold val_main_v16 val_main_v15 val_main_v14 val_main_v13
  generalize val_main_v12 (F := Ideal) x = y
  pointwise []

/-- A logit less the maximum. -/
theorem ref_shift_at (n : Fin 32768) (c : Fin 1024) :
    val_main_call0_v5 (F := Ideal) x (ix2 n c) = x (ix2 n c) - val_main_call0_v2 (F := Ideal) x (ix1 n) := by
  unfold val_main_call0_v5 val_main_call0_v4 val_main_call0_v3
  generalize val_main_call0_v2 (F := Ideal) x = y
  pointwise []

/-- A row's sum of the exponentials, in the softmax. -/
theorem ref_sum_at (n : Fin 32768) : val_main_v17 (F := Ideal) x (ix1 n) = ∑ c, val_main_v16 (F := Ideal) x (ix2 n c) := by
  rw [val_main_v17_apply]
  have h : ∀ c, idx_main_v17 (ix1 n) c = ix2 n c := fun c => by
    funext a
    match a with
    | ⟨0, _⟩ => rfl
    | ⟨1, _⟩ => rfl
  simp only [h]
  rw [val_main_cst_3_apply]
  exact (congrArg (· + _) ofBits_zero).trans (by rw [EReal.coe_zero, zero_add])

/-- A row's sum of the exponentials, in the log-softmax. -/
theorem ref_logsum_at (n : Fin 32768) :
    val_main_call0_v7 (F := Ideal) x (ix1 n) = ∑ c, Ideal.exp (val_main_call0_v5 (F := Ideal) x (ix2 n c)) := by
  rw [val_main_call0_v7_apply]
  have h : ∀ c, idx_main_call0_v7 (ix1 n) c = ix2 n c := fun c => by
    funext a
    match a with
    | ⟨0, _⟩ => rfl
    | ⟨1, _⟩ => rfl
  simp only [h, val_main_call0_v6_apply]
  rw [val_main_call0_cst_1_apply]
  exact (congrArg (· + _) ofBits_zero).trans (by rw [EReal.coe_zero, zero_add]; rfl)

/-- The softmax as the quotient the reference takes. -/
theorem ref_prob_at (n : Fin 32768) (k : Fin 1024) : val_main_v20 (F := Ideal) x (ix2 n k)
    = Ideal.div (val_main_v16 (F := Ideal) x (ix2 n k)) (val_main_v17 (F := Ideal) x (ix1 n)) := by
  unfold val_main_v20 val_main_v19 val_main_v18
  generalize val_main_v16 (F := Ideal) x = y
  generalize val_main_v17 (F := Ideal) x = z
  pointwise []

/-- The log-softmax as the difference the reference takes. -/
theorem ref_logprob_at (n : Fin 32768) (k : Fin 1024) : val_main_v5 (F := Ideal) x (ix2 n k)
    = val_main_call0_v5 (F := Ideal) x (ix2 n k) - Ideal.log (val_main_call0_v7 (F := Ideal) x (ix1 n)) := by
  unfold val_main_v5 val_main_call0_v10 val_main_call0_v9 val_main_call0_v8
  generalize val_main_call0_v5 (F := Ideal) x = y
  generalize val_main_call0_v7 (F := Ideal) x = z
  pointwise []

/-- The reference's softmax. -/
theorem ref_prob (hx : ∀ n k, x (ix2 n k) = ((X n k : ℝ) : EReal)) (n : Fin 32768) (k : Fin 1024) :
    val_main_v20 (F := Ideal) x (ix2 n k) = ((prob (X n) k : ℝ) : EReal) := by
  obtain ⟨M, hM, -⟩ := ref_max hx n
  have hexp : ∀ c, val_main_v16 (F := Ideal) x (ix2 n c) = ((Real.exp (X n c - M) : ℝ) : EReal) := fun c => by
    rw [ref_exp_at, hM, hx, ← EReal.coe_sub, Ideal.exp_coe]
  have hp := expSum_pos (X n) k
  rw [ref_prob_at, ref_sum_at]
  simp only [hexp]
  rw [← coe_sum, expSum_shift, Ideal.div_coe (mul_pos hp (Real.exp_pos _)).ne', ← EReal.coe_mul, mul_one_div, sub_eq_add_neg,
    Real.exp_add, mul_div_mul_right _ _ (Real.exp_pos _).ne', prob]

/-- The reference's log-softmax. -/
theorem ref_logprob (hx : ∀ n k, x (ix2 n k) = ((X n k : ℝ) : EReal)) (n : Fin 32768) (k : Fin 1024) :
    val_main_v5 (F := Ideal) x (ix2 n k) = ((X n k - Real.log (expSum (X n)) : ℝ) : EReal) := by
  obtain ⟨M, -, hM⟩ := ref_max hx n
  have hsub : ∀ c, val_main_call0_v5 (F := Ideal) x (ix2 n c) = ((X n c - M : ℝ) : EReal) := fun c => by
    rw [ref_shift_at, hM, hx, ← EReal.coe_sub]
  have hp := expSum_pos (X n) k
  rw [ref_logprob_at, ref_logsum_at]
  simp only [hsub, Ideal.exp_coe]
  rw [← coe_sum, expSum_shift, Ideal.log_coe, if_neg (mul_pos hp (Real.exp_pos _)).not_ge, ← EReal.coe_sub,
    Real.log_mul hp.ne' (Real.exp_pos _).ne', Real.log_exp]
  exact congrArg _ (by ring)

/-- A target's word is not negative and below the number of classes. -/
theorem target_toInt (k : Fin 1024) : (BitVec.ofNat 32 k.val).toInt = (k.val : ℤ) := by
  rw [BitVec.toInt_eq_toNat_of_lt (by simp only [BitVec.toNat_ofNat]; omega), BitVec.toNat_ofNat, Nat.mod_eq_of_lt (by omega)]

/-- The index the target's column is gathered at is the target. -/
theorem ref_index (ht : ∀ n, t (ix1 n) = BitVec.ofNat 32 (T n).val) (n : Fin 32768) (z : Fin 1) :
    val_main_call1_v5 (F := Ideal) t (ix3 n 0 z) = BitVec.ofNat 32 (T n).val := by
  obtain rfl : z = 0 := Subsingleton.elim _ _
  have : val_main_call1_v5 (F := Ideal) t (ix3 n 0 0)
      = Scalar.select (IntOp.cmpi .slt (t (ix1 n)) 0#32) (IntOp.addi (t (ix1 n)) 1024#32) (t (ix1 n)) := by
    pointwise [val_main_call1_v5, val_main_call1_v4, val_main_call1_v3, val_main_call1_v2, val_main_call1_v1, val_main_call1_v0,
      val_main_v6, val_main_call1_c, val_main_call1_c_0]
  rw [this, ht, Routing.wrap_of_lt _ _ (by rw [BitVec.toNat_ofNat]; omega)]

/-- It is in range, so the gathered value is kept. -/
theorem ref_in_range (ht : ∀ n, t (ix1 n) = BitVec.ofNat 32 (T n).val) (n : Fin 32768) :
    val_main_call1_v12 (F := Ideal) t (ix2 n 0) = 1#1 := by
  have h11 : ∀ z : Fin 1, val_main_call1_v11 (F := Ideal) t (ix3 n 0 z) = 1#1 := fun z => by
    have : val_main_call1_v11 (F := Ideal) t (ix3 n 0 z)
        = IntOp.andi (IntOp.cmpi .sge (val_main_call1_v5 (F := Ideal) t (ix3 n 0 z)) 0#32)
            (IntOp.cmpi .sle (val_main_call1_v5 (F := Ideal) t (ix3 n 0 z)) 1023#32) := by
      pointwise [val_main_call1_v11, val_main_call1_v10, val_main_call1_v9, val_main_call1_v8, val_main_call1_v7, val_main_call1_v6,
        val_main_call1_c_1, val_main_call1_c_2]
    rw [this, ref_index ht n z]
    have h0 : (0#32).sle (BitVec.ofNat 32 (T n).val) = true := by
      rw [BitVec.sle_eq_decide, decide_eq_true_iff, target_toInt]; simp
    have h1 : (BitVec.ofNat 32 (T n).val).sle 1023#32 = true := by
      rw [BitVec.sle_eq_decide, decide_eq_true_iff, target_toInt]
      have := (T n).isLt
      simp; omega
    show IntOp.andi (BitVec.ofBool ((0#32).sle _)) (BitVec.ofBool (BitVec.sle _ 1023#32)) = 1#1
    rw [h0, h1]
    rfl
  have : val_main_call1_v12 (F := Ideal) t (ix2 n 0)
      = Finset.fold IntOp.andi (1#1) (fun z => val_main_call1_v11 (F := Ideal) t (ix3 n 0 z)) Finset.univ := by
    pointwise [val_main_call1_v12, val_main_call1_c_3]
  rw [this]
  simp only [h11]
  rfl

/-- The reference's loss. -/
theorem ref_loss (hx : ∀ n k, x (ix2 n k) = ((X n k : ℝ) : EReal)) (ht : ∀ n, t (ix1 n) = BitVec.ofNat 32 (T n).val) (n : Fin 32768) :
    val_main_v9 (F := Ideal) x t (ix1 n) = ((loss (X n) (T n) : ℝ) : EReal) := by
  have h : val_main_v9 (F := Ideal) x t (ix1 n)
      = -Scalar.select (val_main_call1_v12 (F := Ideal) t (ix2 n 0)) (val_main_call1_v13 (F := Ideal) x t (ix2 n 0))
          (Ideal.ofBits .f32 0x7FC00000#32) := by
    pointwise [val_main_v9, val_main_v8, val_main_v7, val_main_call1_v14, val_main_call1_cst]
  have hg : val_main_call1_v13 (F := Ideal) x t (ix2 n 0) = ((X n (T n) - Real.log (expSum (X n)) : ℝ) : EReal) := by
    refine (gather_column _ _ n).trans ?_
    rw [ref_logprob hx]
    refine congrArg (fun k => ((X n k - Real.log (expSum (X n)) : ℝ) : EReal)) (Fin.ext ?_)
    show min (val_main_call1_v5 (F := Ideal) t (ix3 n 0 0)).toInt.toNat 1023 = (T n).val
    rw [ref_index ht, target_toInt]
    have := (T n).isLt
    omega
  rw [h, ref_in_range ht, hg]
  show -(if (1#1 : BitVec 1) = 1#1 then _ else _) = _
  rw [if_pos rfl, ← EReal.coe_neg, neg_sub, loss]

/-- The size of the reference's gradient. -/
theorem ref_grad (hx : ∀ n k, x (ix2 n k) = ((X n k : ℝ) : EReal)) (ht : ∀ n, t (ix1 n) = BitVec.ofNat 32 (T n).val) (n : Fin 32768)
    (k : Fin 1024) : val_main_v23 (F := Ideal) x t (ix2 n k) = ((grad (X n) (T n) k : ℝ) : EReal) := by
  have h : val_main_v23 (F := Ideal) x t (ix2 n k)
      = FloatOps.absf (F := Ideal) (φ := .f32) (val_main_v20 (F := Ideal) x (ix2 n k)
          - FloatOps.uitofp (F := Ideal) .f32 (IntOp.cmpi .eq (t (ix1 n)) (BitVec.ofNat 32 k.val))) := by
    pointwise [val_main_v23, val_main_v22, val_main_v21, val_main_call2_v4, val_main_call2_v3, val_main_call2_v2, val_main_call2_v1,
      val_main_call2_v0]
  have ho : FloatOps.uitofp (F := Ideal) .f32 (IntOp.cmpi .eq (t (ix1 n)) (BitVec.ofNat 32 k.val))
      = (((if k = T n then 1 else 0 : ℝ)) : EReal) := by
    rw [ht]
    show (((BitVec.ofBool (BitVec.ofNat 32 (T n).val == BitVec.ofNat 32 k.val)).toNat : ℝ) : EReal) = _
    by_cases hk : k = T n
    · rw [if_pos hk, hk]; simp
    · have : (BitVec.ofNat 32 (T n).val == BitVec.ofNat 32 k.val) = false := by
        refine beq_eq_false_iff_ne.2 fun e => hk (Fin.ext ?_)
        have := congrArg BitVec.toNat e
        simp only [BitVec.toNat_ofNat] at this
        omega
      rw [if_neg hk, this]; simp
  rw [h, ho, ref_prob hx, ← EReal.coe_sub, grad_eq_abs _ _ two_classes, abs_eq_max_neg, EReal.coe_strictMono.monotone.map_max, EReal.coe_neg]
  rfl

end Cert.GHM

end
-- ==== Proof.RefBins.lean ====
/-
  The reference's bins: the number of the bin of each gradient, and how many gradients each bin of the table holds.

  The reference counts, of eleven edges, those a gradient exceeds. The last edge lies above one, so no gradient exceeds
  it. The counts' table has ten entries, 0 to 9: what falls into bin 10 is dropped.
-/
module

public import proofs.«01_k».proof.Proof.RefRow
public import proofs.«01_k».proof.Proof.Equation
public import Idealize.ShloMosaic.Lib.IndicatorCount

@[expose] public section

set_option maxRecDepth 16384

noncomputable section

namespace Cert.GHM

open Cert.ReferenceIdeal Cert.ReferenceIdeal.Gen Cert.ReferenceIdeal.Read Idealize.ShloMosaic Idealize.ShloMosaic.TcCoe
open Idealize.SL.Sem Idealize.ShloMosaic.StableHlo

variable {x : Vec Ideal S32768x1024 .f32} {t : Vec Ideal S32768 .i32} {X : Fin 32768 → Fin 1024 → ℝ} {T : Fin 32768 → Fin 1024}

/-- The edges `0, 1/10, …, 1` before the last is raised. -/
theorem ref_tenth (b : Fin 11) : val_main_v2 (F := Ideal) (ix1 b) = ((b.val / 10 : ℝ) : EReal) := by
  have h : val_main_v2 (F := Ideal) (ix1 b)
      = Ideal.div (FloatOps.sitofp (F := Ideal) .f32 (BitVec.ofNat 32 b.val)) (Ideal.ofBits .f32 0x41200000#32) := by
    pointwise [val_main_v2, val_main_v0, val_main_v1, val_main_cst]
  have hb : FloatOps.sitofp (F := Ideal) .f32 (BitVec.ofNat 32 b.val) = ((b.val : ℝ) : EReal) := by
    show (((BitVec.ofNat 32 b.val).toInt : ℝ) : EReal) = _
    rw [BitVec.toInt_eq_toNat_of_lt (by simp only [BitVec.toNat_ofNat]; omega), BitVec.toNat_ofNat, Nat.mod_eq_of_lt (by omega)]
    simp
  rw [h, hb, ofBits_ten, Ideal.div_coe (by norm_num), ← EReal.coe_mul, mul_one_div]

/-- The edges the reference compares with: the last is raised by a millionth. -/
theorem ref_edge (b : Fin 11) :
    val_main_v4 (F := Ideal) (ix1 b) = ((if b = 10 then 1 + eps else b.val / 10 : ℝ) : EReal) := by
  have hi : (val_main_v3 (F := Ideal) (ix1 0)).toInt = ((10 : Fin 11).val : ℤ) := rfl
  refine (scatter_edge _ _ _ 10 hi b).trans ?_
  rw [ref_tenth]
  split
  · next h =>
    subst h
    show _ + Ideal.ofBits .f32 0x358637BD#32 = _
    rw [ofBits_eps, ← EReal.coe_add]
    norm_num
  · rfl

/-- A gradient exceeds an edge but the last one as its bin's number does, and the last one never. -/
theorem edge_lt_iff {C : ℕ} (y : Fin C → ℝ) (τ : Fin C) (hC : ∀ c : Fin C, ∃ d, c ≠ d) (c : Fin C) (b : Fin 11) :
    (if b = 10 then 1 + eps else b.val / 10 : ℝ) < grad y τ c ↔ b.val < 10 ∧ (b.val / 10 : ℝ) < grad y τ c := by
  by_cases hb : b = 10
  · subst hb
    rw [if_pos rfl]
    have := grad_lt_one y τ hC c
    have := eps_pos
    exact ⟨fun h => by linarith, fun h => absurd h.1 (by decide)⟩
  · rw [if_neg hb]
    exact ⟨fun h => ⟨by omega, h⟩, fun h => h.2⟩

/-- The number of edges a gradient exceeds is its bin. -/
theorem card_edges {C : ℕ} (y : Fin C → ℝ) (τ : Fin C) (hC : ∀ c : Fin C, ∃ d, c ≠ d) (c : Fin C) :
    (Finset.univ.filter fun b : Fin 11 => (if b = 10 then 1 + eps else b.val / 10 : ℝ) < grad y τ c).card = bin y τ c := by
  simp only [edge_lt_iff y τ hC]
  unfold bin
  rw [← Finset.card_map Fin.valEmbedding]
  congr 1
  ext k
  simp only [Finset.mem_map, Finset.mem_filter, Finset.mem_univ, true_and, Fin.valEmbedding_apply, Finset.mem_range]
  constructor
  · rintro ⟨b, hb, rfl⟩
    exact hb
  · intro h
    exact ⟨⟨k, by omega⟩, h, rfl⟩

/-- The reference's bin of a gradient. -/
theorem ref_bin (hx : ∀ n k, x (ix2 n k) = ((X n k : ℝ) : EReal)) (ht : ∀ n, t (ix1 n) = BitVec.ofNat 32 (T n).val) (n : Fin 32768)
    (k : Fin 1024) : val_main_v30 (F := Ideal) x t (ix2 n k) = BitVec.ofNat 32 (bin (X n) (T n) k) := by
  have h29 : ∀ b : Fin 11, val_main_v29 (F := Ideal) x t (ix3 n k b)
      = (FloatOps.cmpf (F := Ideal) (φ := .f32) .olt (val_main_v4 (F := Ideal) (ix1 b)) (val_main_v23 (F := Ideal) x t (ix2 n k))).setWidth 32 := by
    intro b
    unfold val_main_v29 val_main_v28 val_main_v27 val_main_v26 val_main_v25 val_main_v24
    generalize val_main_v23 (F := Ideal) x t = y
    generalize val_main_v4 (F := Ideal) = z
    pointwise []
  have h30 : val_main_v30 (F := Ideal) x t (ix2 n k)
      = Finset.fold IntOp.addi (0#32) (fun b => val_main_v29 (F := Ideal) x t (ix3 n k b)) Finset.univ := by
    unfold val_main_v30
    generalize val_main_v29 (F := Ideal) x t = y
    pointwise [val_main_c_4]
  rw [h30]
  simp only [h29]
  rw [IndicatorCount.fold_addi_setWidth_eq_card, ← card_edges (X n) (T n) two_classes k]
  refine congrArg (fun s : Finset (Fin 11) => BitVec.ofNat 32 s.card) ?_
  ext b
  simp only [Finset.mem_filter, Finset.mem_univ, true_and]
  rw [ref_edge, ref_grad hx ht]
  show BitVec.ofBool (decide (_ < _)) = 1#1 ↔ _
  rw [← EReal.coe_lt_coe_iff]
  by_cases h : (((if b = 10 then 1 + eps else b.val / 10 : ℝ)) : EReal) < ((grad (X n) (T n) k : ℝ) : EReal)
  · simp [h]
  · simp [h]

/-- A bin's number, as a word, is itself. -/
theorem bin_toInt {C : ℕ} (y : Fin C → ℝ) (τ c : Fin C) : (BitVec.ofNat 32 (bin y τ c)).toInt = (bin y τ c : ℤ) := by
  have := bin_le y τ c
  rw [BitVec.toInt_eq_toNat_of_lt (by simp only [BitVec.toNat_ofNat]; omega), BitVec.toNat_ofNat, Nat.mod_eq_of_lt (by omega)]

/-- The index the reference adds at: the bin, which is not negative. -/
theorem ref_at (hx : ∀ n k, x (ix2 n k) = ((X n k : ℝ) : EReal)) (ht : ∀ n, t (ix1 n) = BitVec.ofNat 32 (T n).val) (n : Fin 32768)
    (k : Fin 1024) : val_main_v37 (F := Ideal) x t (ix3 n k 0) = BitVec.ofNat 32 (bin (X n) (T n) k) := by
  have h : val_main_v37 (F := Ideal) x t (ix3 n k 0)
      = Scalar.select (IntOp.cmpi .slt (val_main_v30 (F := Ideal) x t (ix2 n k)) 0#32)
          (IntOp.addi (val_main_v30 (F := Ideal) x t (ix2 n k)) 10#32) (val_main_v30 (F := Ideal) x t (ix2 n k)) := by
    unfold val_main_v37 val_main_v36 val_main_v35 val_main_v33
    generalize val_main_v30 (F := Ideal) x t = y
    pointwise [val_main_v34, val_main_v32, val_main_c_6, val_main_c_7]
  have := bin_le (X n) (T n) k
  rw [h, ref_bin hx ht, Routing.wrap_of_lt _ _ (by rw [BitVec.toNat_ofNat]; omega)]

/-- A scatter that adds one at each bin's index, to a table of zeros, counts the bins. -/
theorem scatter_hist (z : FVec Ideal S10 .f32) (idx : IVec S32768x1024x1 32) (u : FVec Ideal S32768x1024 .f32) (b : Fin 10)
    (hz : z (ix1 b) = ((0 : ℝ) : EReal)) (hu : ∀ n k, u (ix2 n k) = ((1 : ℝ) : EReal))
    (hidx : ∀ n k, idx (ix3 n k 0) = BitVec.ofNat 32 (bin (X n) (T n) k)) :
    Host.scatterAdd scatter_S10_S32768x1024x1_S32768x1024_n_0_0_2 z idx u (ix1 b) = ((hist X T b : ℝ) : EReal) := by
  have h : Host.scatterAdd scatter_S10_S32768x1024x1_S32768x1024_n_0_0_2 z idx u (ix1 b)
      = z (ix1 b) + ∑ j ∈ Finset.univ.filter
          (fun j => scatter_S10_S32768x1024x1_S32768x1024_n_0_0_2.resultIdx? j idx = some (ix1 b)), u j := rfl
  have hsum : ∀ n k, (if scatter_S10_S32768x1024x1_S32768x1024_n_0_0_2.resultIdx? (ix2 n k) idx = some (ix1 b)
      then u (ix2 n k) else 0) = (((if bin (X n) (T n) k = b.val then 1 else 0 : ℕ) : ℝ) : EReal) := by
    intro n k
    have e : scatter_S10_S32768x1024x1_S32768x1024_n_0_0_2.resultIdx? (ix2 n k) idx = some (ix1 b) ↔ bin (X n) (T n) k = b.val := by
      rw [scatter_lands, hidx, bin_toInt]
      exact Int.natCast_inj
    by_cases hb : bin (X n) (T n) k = b.val
    · rw [if_pos (e.2 hb), if_pos hb, Nat.cast_one, hu]
    · rw [if_neg fun h => hb (e.1 h), if_neg hb, Nat.cast_zero, EReal.coe_zero]
  rw [h, hz, Finset.sum_filter, EReal.coe_zero, zero_add]
  refine (ValueIdx.sum_idx2 _).trans ?_
  refine (Finset.sum_congr rfl fun n _ => Finset.sum_congr rfl fun k _ => hsum n k).trans ?_
  simp only [← coe_sum]
  refine congrArg Real.toEReal ?_
  rw [hist_eq_sum, Nat.cast_sum]
  exact Finset.sum_congr rfl fun n _ => (Nat.cast_sum _ _).symm

/-- The reference's table of counts. -/
theorem ref_hist (hx : ∀ n k, x (ix2 n k) = ((X n k : ℝ) : EReal)) (ht : ∀ n, t (ix1 n) = BitVec.ofNat 32 (T n).val) (b : Fin 10) :
    val_main_v39 (F := Ideal) x t (ix1 b) = ((hist X T b : ℝ) : EReal) :=
  scatter_hist _ _ _ b ((val_main_v31_apply _).trans ofBits_zero) (fun _ _ => (val_main_v38_apply _).trans ofBits_one) (ref_at hx ht)

end Cert.GHM

end
-- ==== Proof.RefTotal.lean ====
/-
  The reference's weights and its result.

  A bin's count, at least one, over the number of occupied bins is what the reference divides by; a gradient's bin looks
  it up, bin 10 as bin 9. A row's weight is the mean of the reciprocals, and the result the mean of the weighted losses.
-/
module

public import proofs.«01_k».proof.Proof.RefBins

@[expose] public section

set_option maxRecDepth 16384

noncomputable section

namespace Cert.GHM

open Cert.ReferenceIdeal Cert.ReferenceIdeal.Gen Cert.ReferenceIdeal.Read Idealize.ShloMosaic Idealize.ShloMosaic.TcCoe
open Idealize.SL.Sem Idealize.ShloMosaic.StableHlo

variable {x : Vec Ideal S32768x1024 .f32} {t : Vec Ideal S32768 .i32} {X : Fin 32768 → Fin 1024 → ℝ} {T : Fin 32768 → Fin 1024}

/-- Beside any class there are two others. -/
theorem three_classes (τ : Fin 1024) : ∃ a b : Fin 1024, a ≠ τ ∧ b ≠ τ ∧ a ≠ b := by
  by_cases h0 : τ = 0
  · exact ⟨1, 2, by rw [h0]; decide, by rw [h0]; decide, by decide⟩
  · by_cases h1 : τ = 1
    · exact ⟨0, 2, by rw [h1]; decide, by rw [h1]; decide, by decide⟩
    · exact ⟨0, 1, Ne.symm h0, Ne.symm h1, by decide⟩

/-- Some bin is occupied. -/
theorem occupied_ne (X : Fin 32768 → Fin 1024 → ℝ) (T : Fin 32768 → Fin 1024) : (occupied X T : ℝ) ≠ 0 :=
  Nat.cast_ne_zero.2 (occupied_pos X T three_classes 0).ne'

/-- The number of occupied bins, counted over the table's entries. -/
theorem card_occupied (X : Fin 32768 → Fin 1024 → ℝ) (T : Fin 32768 → Fin 1024) :
    (Finset.univ.filter fun b : Fin 10 => 0 < hist X T b).card = occupied X T := by
  unfold occupied
  rw [← Finset.card_map Fin.valEmbedding]
  refine congrArg Finset.card ?_
  ext k
  simp only [Finset.mem_map, Finset.mem_filter, Finset.mem_univ, true_and, Fin.valEmbedding_apply, Finset.mem_range]
  constructor
  · rintro ⟨b, hb, rfl⟩
    exact ⟨b.isLt, hb⟩
  · intro h
    exact ⟨⟨k, h.1⟩, h.2, rfl⟩

/-- The count of a table's positive entries, as a number. -/
theorem positive_entries (h : FVec Ideal S10 .f32) (H : ℕ → ℕ) (hh : ∀ b : Fin 10, h (ix1 b) = ((H b : ℝ) : EReal)) :
    FloatOps.sitofp (F := Ideal) .f32 (Finset.fold IntOp.addi (0#32)
      (fun b : Fin 10 => (FloatOps.cmpf (F := Ideal) (φ := .f32) .ogt (h (ix1 b)) (Ideal.ofBits .f32 0x00000000#32)).setWidth 32) Finset.univ)
      = (((Finset.univ.filter fun b : Fin 10 => 0 < H b).card : ℝ) : EReal) := by
  rw [IndicatorCount.fold_addi_setWidth_eq_card]
  have e : (Finset.univ.filter fun b : Fin 10 =>
      FloatOps.cmpf (F := Ideal) (φ := .f32) .ogt (h (ix1 b)) (Ideal.ofBits .f32 0x00000000#32) = 1#1)
      = Finset.univ.filter fun b : Fin 10 => 0 < H b := by
    ext b
    simp only [Finset.mem_filter, Finset.mem_univ, true_and]
    rw [hh, ofBits_zero]
    show BitVec.ofBool (decide (_ < _)) = 1#1 ↔ _
    rw [← Nat.cast_pos (α := ℝ), ← EReal.coe_lt_coe_iff]
    by_cases hb : ((0 : ℝ) : EReal) < ((H b : ℝ) : EReal)
    · simp only [hb, decide_true, iff_true]; rfl
    · simp only [hb, decide_false, iff_false]; decide
  rw [e]
  have := (Finset.card_filter_le Finset.univ fun b : Fin 10 => 0 < H b).trans (Finset.card_fin 10).le
  show (((BitVec.ofNat 32 _).toInt : ℝ) : EReal) = _
  rw [BitVec.toInt_eq_toNat_of_lt (by simp only [BitVec.toNat_ofNat]; omega), BitVec.toNat_ofNat, Nat.mod_eq_of_lt (by omega), Int.cast_natCast]

/-- The reference's number of occupied bins. -/
theorem ref_occupied (hx : ∀ n k, x (ix2 n k) = ((X n k : ℝ) : EReal)) (ht : ∀ n, t (ix1 n) = BitVec.ofNat 32 (T n).val) :
    val_main_v44 (F := Ideal) x t ix0 = ((occupied X T : ℝ) : EReal) := by
  have h43 : val_main_v43 (F := Ideal) x t ix0
      = Finset.fold IntOp.addi (0#32) (fun b : Fin 10 => val_main_v42 (F := Ideal) x t (ix1 b)) Finset.univ := by
    unfold val_main_v43
    generalize val_main_v42 (F := Ideal) x t = y
    pointwise [val_main_c_10]
  have h42 : ∀ b : Fin 10, val_main_v42 (F := Ideal) x t (ix1 b)
      = (FloatOps.cmpf (F := Ideal) (φ := .f32) .ogt (val_main_v39 (F := Ideal) x t (ix1 b))
          (Ideal.ofBits .f32 0x00000000#32)).setWidth 32 := fun b => by
    rw [val_main_v42_apply, val_main_v41_apply, val_main_v40_apply, val_main_cst_9_apply, Ideal.ofBits_def]
  rw [val_main_v44_apply, h43]
  simp only [h42]
  rw [positive_entries _ (hist X T) (ref_hist hx ht), card_occupied]

/-- The reference's divisors: a bin's count, at least one, over the number of occupied bins. -/
theorem ref_divisor (hx : ∀ n k, x (ix2 n k) = ((X n k : ℝ) : EReal)) (ht : ∀ n, t (ix1 n) = BitVec.ofNat 32 (T n).val) (b : Fin 10) :
    val_main_v47 (F := Ideal) x t (ix1 b) = ((max (hist X T b : ℝ) 1 / occupied X T : ℝ) : EReal) := by
  have h : val_main_v47 (F := Ideal) x t (ix1 b)
      = Ideal.div (max (val_main_call3_v1 (F := Ideal) (ix1 b)) (val_main_v39 (F := Ideal) x t (ix1 b))) (val_main_v44 (F := Ideal) x t ix0) := by
    rw [val_main_v47_apply, val_main_v46_apply, val_main_v45_apply, Ideal.hostDivf_def, Ideal.maximumf_def,
      show idx_main_v46 (ix1 b) = ix0 from funext fun a => a.elim0]
  have hc : val_main_call3_v1 (F := Ideal) (ix1 b) = ((1 : ℝ) : EReal) :=
    (val_main_call3_v1_apply (F := Ideal) _).trans ((val_main_call3_v0_apply _).trans ((val_main_cst_11_apply _).trans ofBits_one))
  rw [h, ref_occupied hx ht, ref_hist hx ht, hc, ← EReal.coe_strictMono.monotone.map_max, Ideal.div_coe (occupied_ne X T),
    ← EReal.coe_mul, mul_one_div, max_comm]

/-- What the reference's gradients look up. -/
theorem ref_lookup (hx : ∀ n k, x (ix2 n k) = ((X n k : ℝ) : EReal)) (ht : ∀ n, t (ix1 n) = BitVec.ofNat 32 (T n).val) (n : Fin 32768)
    (k : Fin 1024) : val_main_v48 (F := Ideal) x t (ix2 n k) = ((clipped X T (bin (X n) (T n) k) / occupied X T : ℝ) : EReal) := by
  have hi : val_main_call4_v0 (F := Ideal) x t (ix3 n k 0) = BitVec.ofNat 32 (bin (X n) (T n) k) := by
    refine Eq.trans ?_ (ref_bin hx ht n k)
    unfold val_main_call4_v0
    generalize val_main_v30 (F := Ideal) x t = y
    pointwise []
  unfold val_main_v48
  refine (gather_table _ _ n k).trans ?_
  rw [ref_divisor hx ht]
  simp only [hi, bin_toInt, Int.toNat_natCast]
  rfl

/-- The reference's weight of a row. -/
theorem ref_weight (hx : ∀ n k, x (ix2 n k) = ((X n k : ℝ) : EReal)) (ht : ∀ n, t (ix1 n) = BitVec.ofNat 32 (T n).val) (n : Fin 32768) :
    val_main_v53 (F := Ideal) x t (ix1 n) = ((rowWeight X T n : ℝ) : EReal) := by
  have h50 : ∀ k : Fin 1024, val_main_v50 (F := Ideal) x t (idx_main_v51 (ix1 n) k)
      = ((1 / (clipped X T (bin (X n) (T n) k) / occupied X T) : ℝ) : EReal) := fun k => by
    have e : idx_main_v51 (ix1 n) k = ix2 n k := by
      funext a
      match a with
      | ⟨0, _⟩ => rfl
      | ⟨1, _⟩ => rfl
    rw [e, val_main_v50_apply, ref_lookup hx ht]
    refine (congrArg (fun a => Ideal.div a _) ((val_main_v49_apply (F := Ideal) _).trans ((val_main_cst_12_apply _).trans ofBits_one))).trans ?_
    rw [Ideal.div_coe (div_ne_zero (clipped_pos X T _).ne' (occupied_ne X T)), ← EReal.coe_mul, one_mul]
  rw [val_main_v53_apply, val_main_v51_apply]
  simp only [h50, ← coe_sum]
  refine (congrArg₂ Ideal.div (congrArg (· + _) ofBits_zero) ((val_main_v52_apply (F := Ideal) _).trans ((val_main_cst_14_apply _).trans ofBits_1024))).trans ?_
  rw [EReal.coe_zero, zero_add, Ideal.div_coe (by norm_num), ← EReal.coe_mul, mul_one_div, rowWeight]
  exact congrArg Real.toEReal (congrArg (_ / ·) (Nat.cast_ofNat (R := ℝ) (n := 1024)).symm)

/-- The reference's result. -/
theorem reference_eq (hx : ∀ n k, x (ix2 n k) = ((X n k : ℝ) : EReal)) (ht : ∀ n, t (ix1 n) = BitVec.ofNat 32 (T n).val) :
    val_main_v57 (F := Ideal) x t = fun _ => ((referenceSum X T : ℝ) : EReal) := by
  have h54 : ∀ n, val_main_v54 (F := Ideal) x t (ix1 n) = ((loss (X n) (T n) * rowWeight X T n : ℝ) : EReal) := fun n => by
    rw [val_main_v54_apply, ref_loss hx ht, ref_weight hx ht, EReal.coe_mul]
    rfl
  have h57 : ∀ b : Fin 1, val_main_v57 (F := Ideal) x t (ix1 b)
      = Ideal.div (∑ n, val_main_v54 (F := Ideal) x t (ix1 n)) (Ideal.ofBits .f32 0x47000000#32) := fun b => by
    obtain rfl : b = 0 := Subsingleton.elim _ _
    unfold val_main_v57 val_main_v56 val_main_v55
    generalize val_main_v54 (F := Ideal) x t = y
    pointwise [val_main_cst_15, val_main_cst_16]
  funext i
  obtain ⟨b, rfl⟩ : ∃ b : Fin 1, i = ix1 b := ⟨i 0, ValueIdx.eq_ix1 i⟩
  rw [h57]
  simp only [h54, ← coe_sum]
  rw [ofBits_32768, Ideal.div_coe (by norm_num), ← EReal.coe_mul, mul_one_div, referenceSum]
  exact congrArg Real.toEReal (congrArg (_ / ·) (Nat.cast_ofNat (R := ℝ) (n := 32768)).symm)

end Cert.GHM

end
-- ==== Proof.Valid.lean ====
/-
  What the precondition says of the arguments: the logits are real numbers and the targets are classes.
-/
module

public import proofs.«01_k».proof.Pre_valid
public import proofs.«01_k».proof.Proof.Total

@[expose] public section

noncomputable section

namespace Cert.GHM

open Idealize.ShloMosaic

/-- An extended real smaller than infinity in absolute value is a real number. -/
theorem real_of_abs_lt {a : EReal} (h : max a (-a) < ⊤) : ∃ r : ℝ, a = ((r : ℝ) : EReal) := by
  have h1 : a ≠ ⊤ := fun e => by subst e; simp at h
  have h2 : a ≠ ⊥ := fun e => by subst e; simp at h
  exact ⟨a.toReal, (EReal.coe_toReal h1 h2).symm⟩

/-- A word that is at least 0 and below 1024 is a class's. -/
theorem class_of_range {w : BitVec 32} (h0 : (0#32).sle w = true) (h1 : w.slt 1024#32 = true) :
    ∃ k : Fin 1024, w = BitVec.ofNat 32 k.val := by
  rw [BitVec.sle_eq_decide, decide_eq_true_iff] at h0
  rw [BitVec.slt_eq_decide, decide_eq_true_iff] at h1
  have e0 : (0#32).toInt = 0 := rfl
  have e1 : (1024#32).toInt = 1024 := rfl
  rw [e0] at h0
  rw [e1] at h1
  have ht : w.toInt = (w.toNat : ℤ) := by
    rw [BitVec.toInt_eq_toNat_cond] at h0 ⊢
    split
    · rfl
    · next h => rw [if_neg h] at h0; have := w.isLt; omega
  exact ⟨⟨w.toNat, by omega⟩, by simp⟩

/-- Arguments the precondition holds of are logits and targets. -/
theorem inputs_of_valid [Cert.Pre_valid.Facts] (x : FVec Ideal Cert.Pre_valid.S32768x1024 .f32) (t : IVec Cert.Pre_valid.S32768 32)
    (h1 : (Cert.Pre_valid.fn (F := Ideal) x t).1 = fun _ => 1#1) (h2 : (Cert.Pre_valid.fn (F := Ideal) x t).2 = fun _ => 1#1) :
    ∃ X T, Inputs x t X T := by
  have hx : ∀ n k, ∃ r : ℝ, x (ix2 n k) = ((r : ℝ) : EReal) := fun n k => by
    have h : BitVec.ofBool (decide (max (x (ix2 n k)) (-x (ix2 n k)) < Ideal.ofBits .f32 0x7F800000#32)) = 1#1 := congrFun h1 (ix2 n k)
    rw [ofBits_top] at h
    refine real_of_abs_lt ?_
    by_contra hn
    rw [decide_eq_false hn] at h
    exact absurd h (by decide)
  have ht : ∀ n, ∃ k : Fin 1024, t (ix1 n) = BitVec.ofNat 32 k.val := fun n => by
    have h : IntOp.andi (BitVec.ofBool ((0#32).sle (t (ix1 n)))) (BitVec.ofBool ((t (ix1 n)).slt 1024#32)) = 1#1 := congrFun h2 (ix1 n)
    refine class_of_range ?_ ?_
    · cases hb : (0#32).sle (t (ix1 n))
      · rw [hb] at h
        cases hc : (t (ix1 n)).slt 1024#32 <;> rw [hc] at h <;> exact absurd h (by decide)
      · rfl
    · cases hb : (t (ix1 n)).slt 1024#32
      · rw [hb] at h
        cases hc : (0#32).sle (t (ix1 n)) <;> rw [hc] at h <;> exact absurd h (by decide)
      · rfl
  choose X hX using hx
  choose T hT using ht
  exact ⟨X, T, hX, hT⟩

end Cert.GHM

end
-- ==== Proof.lean ====
/-
  The certificate: the claims, assembled.
-/
module

public import proofs.«01_k».proof.Defs
public import proofs.«01_k».proof.Proof.Runs
public import proofs.«01_k».proof.Proof.Sweep
public import proofs.«01_k».proof.Proof.Total
public import proofs.«01_k».proof.Proof.RefTotal
public import proofs.«01_k».proof.Proof.Valid
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Gen.Pre_valid
public import Idealize.ShloMosaic.Adequacy
public import Idealize.ShloMosaic.Init

@[expose] public section

noncomputable section

namespace Cert.Proof

open Idealize.ShloMosaic Idealize.SL.Sem

/-- From logits and targets the kernel's array and the reference's both end holding the one number
    `kernelSum X T = referenceSum X T`. -/
theorem algebraic : Cert.algebraic_KernelIdeal_ReferenceIdeal_pre_valid (hKernelIdeal := Cert.KernelIdeal.Gen.facts)
    (hReferenceIdeal := Cert.ReferenceIdeal.Gen.facts) (hPre_valid := Cert.Pre_valid.Gen.facts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨X, T, hI⟩ := Cert.GHM.inputs_of_valid _ _ (hpre c).1 (hpre c).2
  rw [Cert.ReferenceIdeal.Read.val_main_v57_eq, (hagree c).1, (hagree c).2]
  refine (Cert.GHM.reference_eq hI.logit hI.target).trans ?_
  rw [← Cert.GHM.kernelSum_eq]
  exact ((Cert.GHM.final_v0 m c).trans (Cert.GHM.result_eq m c hI)).symm

/-- All the claims. -/
theorem claim : Cert.Claim :=
  ⟨Cert.Kernel.Gen.facts, Cert.KernelIdeal.Gen.facts, Cert.ReferenceIdeal.Gen.facts, Cert.Pre_valid.Gen.facts,
    Cert.GHM.frame_kernel, Cert.GHM.frame_ideal, fun m ρ _ => Cert.GHM.frame_ideal m ρ trivial, Cert.GHM.frame_reference,
    fun m ρ _ => Cert.GHM.frame_reference m ρ trivial, Cert.GHM.named, algebraic⟩

end Cert.Proof

end
